-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 2048]⟩ ⟨3, ![4, 512, 2048]⟩ (Layout.meshBlock [2, 4, 4] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![512, 2048]⟩ (Layout.meshBlock [2, 4, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x2048 : Shape := ⟨3, ![1, 512, 2048]⟩
abbrev S512x512 : Shape := ⟨2, ![512, 512]⟩
abbrev S3x4x128x512 : Shape := ⟨4, ![3, 4, 128, 512]⟩
abbrev S3x4 : Shape := ⟨2, ![3, 4]⟩
abbrev S_ : Shape := ⟨0, ![]⟩
abbrev S1x128x512 : Shape := ⟨3, ![1, 128, 512]⟩
abbrev S128x512 : Shape := ⟨2, ![128, 512]⟩
abbrev S1x1x128x512 : Shape := ⟨4, ![1, 1, 128, 512]⟩
abbrev S1x1 : Shape := ⟨2, ![1, 1]⟩

abbrev nBuf : Space → Nat
  | .hbm => 2
  | .vmem => 6
  | .smem => 0
  | _ => 0

abbrev bufTy : (tb : Table) → Fin (tcTables nBuf tb) → BufTy
  | .hbm, ⟨0, _⟩ => ⟨S1x512x2048, .bf16⟩
  | .hbm, ⟨1, _⟩ => ⟨S512x512, .f32⟩
  | .local _ .vmem, ⟨0, _⟩ => ⟨S1x512x2048, .bf16⟩
  | .local _ .vmem, ⟨1, _⟩ => ⟨S512x512, .f32⟩
  | .local _ .vmem, ⟨2, _⟩ => ⟨S3x4x128x512, .bf16⟩
  | .local _ .vmem, ⟨3, _⟩ => ⟨S3x4x128x512, .bf16⟩
  | .local _ .vmem, ⟨4, _⟩ => ⟨S3x4x128x512, .bf16⟩
  | .local _ .vmem, ⟨5, _⟩ => ⟨S3x4x128x512, .bf16⟩
  | _, _ => ⟨S1x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5 : BitVec 32 := 16#32
  let v14 : BitVec 32 := Scalar.muli v2 c16_i32_5
  let v15 : BitVec 32 := Scalar.addi c0_i32_6 v14
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_7 : BitVec 32 := 4#32
  let v16 : BitVec 32 := Scalar.muli v5 c4_i32_7
  let v17 : BitVec 32 := Scalar.addi v15 v16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.subi v8 c1_i32_3
  let c0_i32 : BitVec 32 := 0#32
  let v12 : BitVec 32 := Scalar.maxsi v11 c0_i32
  let c1_i32_8 : BitVec 32 := 1#32
  let v18 : BitVec 32 := Scalar.muli v12 c1_i32_8
  let v19 : BitVec 32 := Scalar.addi v17 v18
  v19.toNat
def k0_dev2 (d0 : Dev nD) : Nat :=
  let c0_i32_11 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_10 : BitVec 32 := 16#32
  let v20 : BitVec 32 := Scalar.muli v2 c16_i32_10
  let v21 : BitVec 32 := Scalar.addi c0_i32_11 v20
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_12 : BitVec 32 := 4#32
  let v22 : BitVec 32 := Scalar.muli v5 c4_i32_12
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c3_i32 : BitVec 32 := 3#32
  let v10 : BitVec 32 := Scalar.minsi v9 c3_i32
  let c1_i32_13 : BitVec 32 := 1#32
  let v24 : BitVec 32 := Scalar.muli v10 c1_i32_13
  let v25 : BitVec 32 := Scalar.addi v23 v24
  v25.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_15 : BitVec 32 := 0#32
  let v26 : BitVec 1 := Scalar.cmpi .sle v8 c0_i32_15
  let v33 : BitVec 32 := Scalar.extui v26
  let c0_i32_22 : BitVec 32 := 0#32
  let v34 : BitVec 1 := Scalar.cmpi .ne v33 c0_i32_22
  v34

def k0_off1 (d0 : Dev nD) : Fin 3 → Nat :=
  let c0_216 : Index := 0#32
  let c0_217 : Index := 0#32
  let c3_i32_17 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v28 : BitVec 32 := Scalar.addi c3_i32_17 v8
  let c3_i32_18 : BitVec 32 := 3#32
  let v29 : BitVec 32 := Scalar.minsi v28 c3_i32_18
  let c512_i32_215 : BitVec 32 := 512#32
  let v335 : BitVec 32 := Scalar.muli v29 c512_i32_215
  let v336 : Index := Scalar.indexCast v335
  ![0, 0, v336.toNat]
def k0_dev3 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v342 : BitVec 32 := Scalar.muli v2 c16_i32_230
  let v343 : BitVec 32 := Scalar.addi c0_i32_231 v342
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_232 : BitVec 32 := 4#32
  let v344 : BitVec 32 := Scalar.muli v5 c4_i32_232
  let v345 : BitVec 32 := Scalar.addi v343 v344
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c3_i32 : BitVec 32 := 3#32
  let v10 : BitVec 32 := Scalar.minsi v9 c3_i32
  let c1_i32_233 : BitVec 32 := 1#32
  let v346 : BitVec 32 := Scalar.muli v10 c1_i32_233
  let v347 : BitVec 32 := Scalar.addi v345 v346
  v347.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_16 : BitVec 32 := 3#32
  let v27 : BitVec 1 := Scalar.cmpi .sge v8 c3_i32_16
  let v35 : BitVec 32 := Scalar.extui v27
  let c0_i32_23 : BitVec 32 := 0#32
  let v36 : BitVec 1 := Scalar.cmpi .ne v35 c0_i32_23
  v36

def k0_off2 (d0 : Dev nD) : Fin 3 → Nat :=
  let c0_216 : Index := 0#32
  let c0_217 : Index := 0#32
  let c0_i32_19 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v30 : BitVec 32 := Scalar.addi c0_i32_19 v8
  let c3_i32_20 : BitVec 32 := 3#32
  let v31 : BitVec 32 := Scalar.subi v30 c3_i32_20
  let c0_i32_21 : BitVec 32 := 0#32
  let v32 : BitVec 32 := Scalar.maxsi v31 c0_i32_21
  let c512_i32_215 : BitVec 32 := 512#32
  let v335 : BitVec 32 := Scalar.muli v32 c512_i32_215
  let v336 : Index := Scalar.indexCast v335
  ![0, 0, v336.toNat]
def k0_dev4 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v342 : BitVec 32 := Scalar.muli v2 c16_i32_230
  let v343 : BitVec 32 := Scalar.addi c0_i32_231 v342
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_232 : BitVec 32 := 4#32
  let v344 : BitVec 32 := Scalar.muli v5 c4_i32_232
  let v345 : BitVec 32 := Scalar.addi v343 v344
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.subi v8 c1_i32_3
  let c0_i32 : BitVec 32 := 0#32
  let v12 : BitVec 32 := Scalar.maxsi v11 c0_i32
  let c1_i32_233 : BitVec 32 := 1#32
  let v346 : BitVec 32 := Scalar.muli v12 c1_i32_233
  let v347 : BitVec 32 := Scalar.addi v345 v346
  v347.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_15 : BitVec 32 := 0#32
  let v26 : BitVec 1 := Scalar.cmpi .sle v8 c0_i32_15
  let v37 : BitVec 32 := Scalar.extui v26
  let c0_i32_24 : BitVec 32 := 0#32
  let v38 : BitVec 1 := Scalar.cmpi .ne v37 c0_i32_24
  v38

def k0_off3 (d0 : Dev nD) : Fin 3 → Nat :=
  let c0_216 : Index := 0#32
  let c128_217 : Index := 128#32
  let c3_i32_17 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v28 : BitVec 32 := Scalar.addi c3_i32_17 v8
  let c3_i32_18 : BitVec 32 := 3#32
  let v29 : BitVec 32 := Scalar.minsi v28 c3_i32_18
  let c512_i32_215 : BitVec 32 := 512#32
  let v335 : BitVec 32 := Scalar.muli v29 c512_i32_215
  let v336 : Index := Scalar.indexCast v335
  ![0, 128, v336.toNat]
def k0_dev5 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v342 : BitVec 32 := Scalar.muli v2 c16_i32_230
  let v343 : BitVec 32 := Scalar.addi c0_i32_231 v342
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_232 : BitVec 32 := 4#32
  let v344 : BitVec 32 := Scalar.muli v5 c4_i32_232
  let v345 : BitVec 32 := Scalar.addi v343 v344
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c3_i32 : BitVec 32 := 3#32
  let v10 : BitVec 32 := Scalar.minsi v9 c3_i32
  let c1_i32_233 : BitVec 32 := 1#32
  let v346 : BitVec 32 := Scalar.muli v10 c1_i32_233
  let v347 : BitVec 32 := Scalar.addi v345 v346
  v347.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_16 : BitVec 32 := 3#32
  let v27 : BitVec 1 := Scalar.cmpi .sge v8 c3_i32_16
  let v39 : BitVec 32 := Scalar.extui v27
  let c0_i32_25 : BitVec 32 := 0#32
  let v40 : BitVec 1 := Scalar.cmpi .ne v39 c0_i32_25
  v40

def k0_off4 (d0 : Dev nD) : Fin 3 → Nat :=
  let c0_216 : Index := 0#32
  let c128_217 : Index := 128#32
  let c0_i32_19 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v30 : BitVec 32 := Scalar.addi c0_i32_19 v8
  let c3_i32_20 : BitVec 32 := 3#32
  let v31 : BitVec 32 := Scalar.subi v30 c3_i32_20
  let c0_i32_21 : BitVec 32 := 0#32
  let v32 : BitVec 32 := Scalar.maxsi v31 c0_i32_21
  let c512_i32_215 : BitVec 32 := 512#32
  let v335 : BitVec 32 := Scalar.muli v32 c512_i32_215
  let v336 : Index := Scalar.indexCast v335
  ![0, 128, v336.toNat]
def k0_dev6 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v342 : BitVec 32 := Scalar.muli v2 c16_i32_230
  let v343 : BitVec 32 := Scalar.addi c0_i32_231 v342
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_232 : BitVec 32 := 4#32
  let v344 : BitVec 32 := Scalar.muli v5 c4_i32_232
  let v345 : BitVec 32 := Scalar.addi v343 v344
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.subi v8 c1_i32_3
  let c0_i32 : BitVec 32 := 0#32
  let v12 : BitVec 32 := Scalar.maxsi v11 c0_i32
  let c1_i32_233 : BitVec 32 := 1#32
  let v346 : BitVec 32 := Scalar.muli v12 c1_i32_233
  let v347 : BitVec 32 := Scalar.addi v345 v346
  v347.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_15 : BitVec 32 := 0#32
  let v26 : BitVec 1 := Scalar.cmpi .sle v8 c0_i32_15
  let v41 : BitVec 32 := Scalar.extui v26
  let c0_i32_26 : BitVec 32 := 0#32
  let v42 : BitVec 1 := Scalar.cmpi .ne v41 c0_i32_26
  v42

def k0_off5 (d0 : Dev nD) : Fin 3 → Nat :=
  let c0_216 : Index := 0#32
  let c256_217 : Index := 256#32
  let c3_i32_17 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v28 : BitVec 32 := Scalar.addi c3_i32_17 v8
  let c3_i32_18 : BitVec 32 := 3#32
  let v29 : BitVec 32 := Scalar.minsi v28 c3_i32_18
  let c512_i32_215 : BitVec 32 := 512#32
  let v335 : BitVec 32 := Scalar.muli v29 c512_i32_215
  let v336 : Index := Scalar.indexCast v335
  ![0, 256, v336.toNat]
def k0_dev7 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v342 : BitVec 32 := Scalar.muli v2 c16_i32_230
  let v343 : BitVec 32 := Scalar.addi c0_i32_231 v342
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_232 : BitVec 32 := 4#32
  let v344 : BitVec 32 := Scalar.muli v5 c4_i32_232
  let v345 : BitVec 32 := Scalar.addi v343 v344
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c3_i32 : BitVec 32 := 3#32
  let v10 : BitVec 32 := Scalar.minsi v9 c3_i32
  let c1_i32_233 : BitVec 32 := 1#32
  let v346 : BitVec 32 := Scalar.muli v10 c1_i32_233
  let v347 : BitVec 32 := Scalar.addi v345 v346
  v347.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_16 : BitVec 32 := 3#32
  let v27 : BitVec 1 := Scalar.cmpi .sge v8 c3_i32_16
  let v43 : BitVec 32 := Scalar.extui v27
  let c0_i32_27 : BitVec 32 := 0#32
  let v44 : BitVec 1 := Scalar.cmpi .ne v43 c0_i32_27
  v44

def k0_off6 (d0 : Dev nD) : Fin 3 → Nat :=
  let c0_216 : Index := 0#32
  let c256_217 : Index := 256#32
  let c0_i32_19 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v30 : BitVec 32 := Scalar.addi c0_i32_19 v8
  let c3_i32_20 : BitVec 32 := 3#32
  let v31 : BitVec 32 := Scalar.subi v30 c3_i32_20
  let c0_i32_21 : BitVec 32 := 0#32
  let v32 : BitVec 32 := Scalar.maxsi v31 c0_i32_21
  let c512_i32_215 : BitVec 32 := 512#32
  let v335 : BitVec 32 := Scalar.muli v32 c512_i32_215
  let v336 : Index := Scalar.indexCast v335
  ![0, 256, v336.toNat]
def k0_dev8 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v342 : BitVec 32 := Scalar.muli v2 c16_i32_230
  let v343 : BitVec 32 := Scalar.addi c0_i32_231 v342
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_232 : BitVec 32 := 4#32
  let v344 : BitVec 32 := Scalar.muli v5 c4_i32_232
  let v345 : BitVec 32 := Scalar.addi v343 v344
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.subi v8 c1_i32_3
  let c0_i32 : BitVec 32 := 0#32
  let v12 : BitVec 32 := Scalar.maxsi v11 c0_i32
  let c1_i32_233 : BitVec 32 := 1#32
  let v346 : BitVec 32 := Scalar.muli v12 c1_i32_233
  let v347 : BitVec 32 := Scalar.addi v345 v346
  v347.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_15 : BitVec 32 := 0#32
  let v26 : BitVec 1 := Scalar.cmpi .sle v8 c0_i32_15
  let v45 : BitVec 32 := Scalar.extui v26
  let c0_i32_28 : BitVec 32 := 0#32
  let v46 : BitVec 1 := Scalar.cmpi .ne v45 c0_i32_28
  v46

def k0_off7 (d0 : Dev nD) : Fin 3 → Nat :=
  let c0_216 : Index := 0#32
  let c384_217 : Index := 384#32
  let c3_i32_17 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v28 : BitVec 32 := Scalar.addi c3_i32_17 v8
  let c3_i32_18 : BitVec 32 := 3#32
  let v29 : BitVec 32 := Scalar.minsi v28 c3_i32_18
  let c512_i32_215 : BitVec 32 := 512#32
  let v335 : BitVec 32 := Scalar.muli v29 c512_i32_215
  let v336 : Index := Scalar.indexCast v335
  ![0, 384, v336.toNat]
def k0_dev9 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v342 : BitVec 32 := Scalar.muli v2 c16_i32_230
  let v343 : BitVec 32 := Scalar.addi c0_i32_231 v342
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_232 : BitVec 32 := 4#32
  let v344 : BitVec 32 := Scalar.muli v5 c4_i32_232
  let v345 : BitVec 32 := Scalar.addi v343 v344
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c3_i32 : BitVec 32 := 3#32
  let v10 : BitVec 32 := Scalar.minsi v9 c3_i32
  let c1_i32_233 : BitVec 32 := 1#32
  let v346 : BitVec 32 := Scalar.muli v10 c1_i32_233
  let v347 : BitVec 32 := Scalar.addi v345 v346
  v347.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_16 : BitVec 32 := 3#32
  let v27 : BitVec 1 := Scalar.cmpi .sge v8 c3_i32_16
  let v47 : BitVec 32 := Scalar.extui v27
  let c0_i32_29 : BitVec 32 := 0#32
  let v48 : BitVec 1 := Scalar.cmpi .ne v47 c0_i32_29
  v48

def k0_off8 (d0 : Dev nD) : Fin 3 → Nat :=
  let c0_216 : Index := 0#32
  let c384_217 : Index := 384#32
  let c0_i32_19 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v30 : BitVec 32 := Scalar.addi c0_i32_19 v8
  let c3_i32_20 : BitVec 32 := 3#32
  let v31 : BitVec 32 := Scalar.subi v30 c3_i32_20
  let c0_i32_21 : BitVec 32 := 0#32
  let v32 : BitVec 32 := Scalar.maxsi v31 c0_i32_21
  let c512_i32_215 : BitVec 32 := 512#32
  let v335 : BitVec 32 := Scalar.muli v32 c512_i32_215
  let v336 : Index := Scalar.indexCast v335
  ![0, 384, v336.toNat]
def k0_dev10 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v342 : BitVec 32 := Scalar.muli v2 c16_i32_230
  let v343 : BitVec 32 := Scalar.addi c0_i32_231 v342
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_232 : BitVec 32 := 4#32
  let v344 : BitVec 32 := Scalar.muli v5 c4_i32_232
  let v345 : BitVec 32 := Scalar.addi v343 v344
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.subi v8 c1_i32_3
  let c0_i32 : BitVec 32 := 0#32
  let v12 : BitVec 32 := Scalar.maxsi v11 c0_i32
  let c1_i32_233 : BitVec 32 := 1#32
  let v346 : BitVec 32 := Scalar.muli v12 c1_i32_233
  let v347 : BitVec 32 := Scalar.addi v345 v346
  v347.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v49 : BitVec 1 := Scalar.cmpi .sle v8 c1_i32_30
  let v60 : BitVec 32 := Scalar.extui v49
  let c0_i32_39 : BitVec 32 := 0#32
  let v61 : BitVec 1 := Scalar.cmpi .ne v60 c0_i32_39
  v61

def k0_off9 (d0 : Dev nD) : Fin 3 → Nat :=
  let c0_216 : Index := 0#32
  let c0_217 : Index := 0#32
  let c2_i32_32 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v51 : BitVec 32 := Scalar.addi c2_i32_32 v8
  let c3_i32_33 : BitVec 32 := 3#32
  let v52 : BitVec 32 := Scalar.minsi v51 c3_i32_33
  let c512_i32_215 : BitVec 32 := 512#32
  let v335 : BitVec 32 := Scalar.muli v52 c512_i32_215
  let v336 : Index := Scalar.indexCast v335
  ![0, 0, v336.toNat]
def k0_dev11 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v348 : BitVec 32 := Scalar.muli v2 c16_i32_236
  let v349 : BitVec 32 := Scalar.addi c0_i32_237 v348
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v350 : BitVec 32 := Scalar.muli v5 c4_i32_238
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c3_i32 : BitVec 32 := 3#32
  let v10 : BitVec 32 := Scalar.minsi v9 c3_i32
  let c1_i32_239 : BitVec 32 := 1#32
  let v352 : BitVec 32 := Scalar.muli v10 c1_i32_239
  let v353 : BitVec 32 := Scalar.addi v351 v352
  v353.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_31 : BitVec 32 := 2#32
  let v50 : BitVec 1 := Scalar.cmpi .sge v8 c2_i32_31
  let v66 : BitVec 32 := Scalar.extui v50
  let c0_i32_42 : BitVec 32 := 0#32
  let v67 : BitVec 1 := Scalar.cmpi .ne v66 c0_i32_42
  v67

def k0_off10 (d0 : Dev nD) : Fin 3 → Nat :=
  let c0_216 : Index := 0#32
  let c0_217 : Index := 0#32
  let c1_i32_34 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v53 : BitVec 32 := Scalar.addi c1_i32_34 v8
  let c3_i32_35 : BitVec 32 := 3#32
  let v54 : BitVec 32 := Scalar.subi v53 c3_i32_35
  let c0_i32_36 : BitVec 32 := 0#32
  let v55 : BitVec 32 := Scalar.maxsi v54 c0_i32_36
  let c512_i32_215 : BitVec 32 := 512#32
  let v335 : BitVec 32 := Scalar.muli v55 c512_i32_215
  let v336 : Index := Scalar.indexCast v335
  ![0, 0, v336.toNat]
def k0_dev12 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v348 : BitVec 32 := Scalar.muli v2 c16_i32_236
  let v349 : BitVec 32 := Scalar.addi c0_i32_237 v348
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v350 : BitVec 32 := Scalar.muli v5 c4_i32_238
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.subi v8 c1_i32_3
  let c0_i32 : BitVec 32 := 0#32
  let v12 : BitVec 32 := Scalar.maxsi v11 c0_i32
  let c1_i32_239 : BitVec 32 := 1#32
  let v352 : BitVec 32 := Scalar.muli v12 c1_i32_239
  let v353 : BitVec 32 := Scalar.addi v351 v352
  v353.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v49 : BitVec 1 := Scalar.cmpi .sle v8 c1_i32_30
  let v72 : BitVec 32 := Scalar.extui v49
  let c0_i32_45 : BitVec 32 := 0#32
  let v73 : BitVec 1 := Scalar.cmpi .ne v72 c0_i32_45
  v73

def k0_off11 (d0 : Dev nD) : Fin 3 → Nat :=
  let c0_216 : Index := 0#32
  let c128_217 : Index := 128#32
  let c2_i32_32 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v51 : BitVec 32 := Scalar.addi c2_i32_32 v8
  let c3_i32_33 : BitVec 32 := 3#32
  let v52 : BitVec 32 := Scalar.minsi v51 c3_i32_33
  let c512_i32_215 : BitVec 32 := 512#32
  let v335 : BitVec 32 := Scalar.muli v52 c512_i32_215
  let v336 : Index := Scalar.indexCast v335
  ![0, 128, v336.toNat]
def k0_dev13 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v348 : BitVec 32 := Scalar.muli v2 c16_i32_236
  let v349 : BitVec 32 := Scalar.addi c0_i32_237 v348
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v350 : BitVec 32 := Scalar.muli v5 c4_i32_238
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c3_i32 : BitVec 32 := 3#32
  let v10 : BitVec 32 := Scalar.minsi v9 c3_i32
  let c1_i32_239 : BitVec 32 := 1#32
  let v352 : BitVec 32 := Scalar.muli v10 c1_i32_239
  let v353 : BitVec 32 := Scalar.addi v351 v352
  v353.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_31 : BitVec 32 := 2#32
  let v50 : BitVec 1 := Scalar.cmpi .sge v8 c2_i32_31
  let v78 : BitVec 32 := Scalar.extui v50
  let c0_i32_48 : BitVec 32 := 0#32
  let v79 : BitVec 1 := Scalar.cmpi .ne v78 c0_i32_48
  v79

def k0_off12 (d0 : Dev nD) : Fin 3 → Nat :=
  let c0_216 : Index := 0#32
  let c128_217 : Index := 128#32
  let c1_i32_34 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v53 : BitVec 32 := Scalar.addi c1_i32_34 v8
  let c3_i32_35 : BitVec 32 := 3#32
  let v54 : BitVec 32 := Scalar.subi v53 c3_i32_35
  let c0_i32_36 : BitVec 32 := 0#32
  let v55 : BitVec 32 := Scalar.maxsi v54 c0_i32_36
  let c512_i32_215 : BitVec 32 := 512#32
  let v335 : BitVec 32 := Scalar.muli v55 c512_i32_215
  let v336 : Index := Scalar.indexCast v335
  ![0, 128, v336.toNat]
def k0_dev14 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v348 : BitVec 32 := Scalar.muli v2 c16_i32_236
  let v349 : BitVec 32 := Scalar.addi c0_i32_237 v348
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v350 : BitVec 32 := Scalar.muli v5 c4_i32_238
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.subi v8 c1_i32_3
  let c0_i32 : BitVec 32 := 0#32
  let v12 : BitVec 32 := Scalar.maxsi v11 c0_i32
  let c1_i32_239 : BitVec 32 := 1#32
  let v352 : BitVec 32 := Scalar.muli v12 c1_i32_239
  let v353 : BitVec 32 := Scalar.addi v351 v352
  v353.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v49 : BitVec 1 := Scalar.cmpi .sle v8 c1_i32_30
  let v84 : BitVec 32 := Scalar.extui v49
  let c0_i32_51 : BitVec 32 := 0#32
  let v85 : BitVec 1 := Scalar.cmpi .ne v84 c0_i32_51
  v85

def k0_off13 (d0 : Dev nD) : Fin 3 → Nat :=
  let c0_216 : Index := 0#32
  let c256_217 : Index := 256#32
  let c2_i32_32 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v51 : BitVec 32 := Scalar.addi c2_i32_32 v8
  let c3_i32_33 : BitVec 32 := 3#32
  let v52 : BitVec 32 := Scalar.minsi v51 c3_i32_33
  let c512_i32_215 : BitVec 32 := 512#32
  let v335 : BitVec 32 := Scalar.muli v52 c512_i32_215
  let v336 : Index := Scalar.indexCast v335
  ![0, 256, v336.toNat]
def k0_dev15 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v348 : BitVec 32 := Scalar.muli v2 c16_i32_236
  let v349 : BitVec 32 := Scalar.addi c0_i32_237 v348
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v350 : BitVec 32 := Scalar.muli v5 c4_i32_238
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c3_i32 : BitVec 32 := 3#32
  let v10 : BitVec 32 := Scalar.minsi v9 c3_i32
  let c1_i32_239 : BitVec 32 := 1#32
  let v352 : BitVec 32 := Scalar.muli v10 c1_i32_239
  let v353 : BitVec 32 := Scalar.addi v351 v352
  v353.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_31 : BitVec 32 := 2#32
  let v50 : BitVec 1 := Scalar.cmpi .sge v8 c2_i32_31
  let v90 : BitVec 32 := Scalar.extui v50
  let c0_i32_54 : BitVec 32 := 0#32
  let v91 : BitVec 1 := Scalar.cmpi .ne v90 c0_i32_54
  v91

def k0_off14 (d0 : Dev nD) : Fin 3 → Nat :=
  let c0_216 : Index := 0#32
  let c256_217 : Index := 256#32
  let c1_i32_34 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v53 : BitVec 32 := Scalar.addi c1_i32_34 v8
  let c3_i32_35 : BitVec 32 := 3#32
  let v54 : BitVec 32 := Scalar.subi v53 c3_i32_35
  let c0_i32_36 : BitVec 32 := 0#32
  let v55 : BitVec 32 := Scalar.maxsi v54 c0_i32_36
  let c512_i32_215 : BitVec 32 := 512#32
  let v335 : BitVec 32 := Scalar.muli v55 c512_i32_215
  let v336 : Index := Scalar.indexCast v335
  ![0, 256, v336.toNat]
def k0_dev16 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v348 : BitVec 32 := Scalar.muli v2 c16_i32_236
  let v349 : BitVec 32 := Scalar.addi c0_i32_237 v348
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v350 : BitVec 32 := Scalar.muli v5 c4_i32_238
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.subi v8 c1_i32_3
  let c0_i32 : BitVec 32 := 0#32
  let v12 : BitVec 32 := Scalar.maxsi v11 c0_i32
  let c1_i32_239 : BitVec 32 := 1#32
  let v352 : BitVec 32 := Scalar.muli v12 c1_i32_239
  let v353 : BitVec 32 := Scalar.addi v351 v352
  v353.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v49 : BitVec 1 := Scalar.cmpi .sle v8 c1_i32_30
  let v96 : BitVec 32 := Scalar.extui v49
  let c0_i32_57 : BitVec 32 := 0#32
  let v97 : BitVec 1 := Scalar.cmpi .ne v96 c0_i32_57
  v97

def k0_off15 (d0 : Dev nD) : Fin 3 → Nat :=
  let c0_216 : Index := 0#32
  let c384_217 : Index := 384#32
  let c2_i32_32 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v51 : BitVec 32 := Scalar.addi c2_i32_32 v8
  let c3_i32_33 : BitVec 32 := 3#32
  let v52 : BitVec 32 := Scalar.minsi v51 c3_i32_33
  let c512_i32_215 : BitVec 32 := 512#32
  let v335 : BitVec 32 := Scalar.muli v52 c512_i32_215
  let v336 : Index := Scalar.indexCast v335
  ![0, 384, v336.toNat]
def k0_dev17 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v348 : BitVec 32 := Scalar.muli v2 c16_i32_236
  let v349 : BitVec 32 := Scalar.addi c0_i32_237 v348
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v350 : BitVec 32 := Scalar.muli v5 c4_i32_238
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c3_i32 : BitVec 32 := 3#32
  let v10 : BitVec 32 := Scalar.minsi v9 c3_i32
  let c1_i32_239 : BitVec 32 := 1#32
  let v352 : BitVec 32 := Scalar.muli v10 c1_i32_239
  let v353 : BitVec 32 := Scalar.addi v351 v352
  v353.toNat
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_31 : BitVec 32 := 2#32
  let v50 : BitVec 1 := Scalar.cmpi .sge v8 c2_i32_31
  let v102 : BitVec 32 := Scalar.extui v50
  let c0_i32_60 : BitVec 32 := 0#32
  let v103 : BitVec 1 := Scalar.cmpi .ne v102 c0_i32_60
  v103

def k0_off16 (d0 : Dev nD) : Fin 3 → Nat :=
  let c0_216 : Index := 0#32
  let c384_217 : Index := 384#32
  let c1_i32_34 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v53 : BitVec 32 := Scalar.addi c1_i32_34 v8
  let c3_i32_35 : BitVec 32 := 3#32
  let v54 : BitVec 32 := Scalar.subi v53 c3_i32_35
  let c0_i32_36 : BitVec 32 := 0#32
  let v55 : BitVec 32 := Scalar.maxsi v54 c0_i32_36
  let c512_i32_215 : BitVec 32 := 512#32
  let v335 : BitVec 32 := Scalar.muli v55 c512_i32_215
  let v336 : Index := Scalar.indexCast v335
  ![0, 384, v336.toNat]
def k0_dev18 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v348 : BitVec 32 := Scalar.muli v2 c16_i32_236
  let v349 : BitVec 32 := Scalar.addi c0_i32_237 v348
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v350 : BitVec 32 := Scalar.muli v5 c4_i32_238
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.subi v8 c1_i32_3
  let c0_i32 : BitVec 32 := 0#32
  let v12 : BitVec 32 := Scalar.maxsi v11 c0_i32
  let c1_i32_239 : BitVec 32 := 1#32
  let v352 : BitVec 32 := Scalar.muli v12 c1_i32_239
  let v353 : BitVec 32 := Scalar.addi v351 v352
  v353.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_61 : BitVec 32 := 2#32
  let v104 : BitVec 1 := Scalar.cmpi .sle v8 c2_i32_61
  let v115 : BitVec 32 := Scalar.extui v104
  let c0_i32_70 : BitVec 32 := 0#32
  let v116 : BitVec 1 := Scalar.cmpi .ne v115 c0_i32_70
  v116

def k0_off17 (d0 : Dev nD) : Fin 3 → Nat :=
  let c0_216 : Index := 0#32
  let c0_217 : Index := 0#32
  let c1_i32_63 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v106 : BitVec 32 := Scalar.addi c1_i32_63 v8
  let c3_i32_64 : BitVec 32 := 3#32
  let v107 : BitVec 32 := Scalar.minsi v106 c3_i32_64
  let c512_i32_215 : BitVec 32 := 512#32
  let v335 : BitVec 32 := Scalar.muli v107 c512_i32_215
  let v336 : Index := Scalar.indexCast v335
  ![0, 0, v336.toNat]
def k0_dev19 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v348 : BitVec 32 := Scalar.muli v2 c16_i32_236
  let v349 : BitVec 32 := Scalar.addi c0_i32_237 v348
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v350 : BitVec 32 := Scalar.muli v5 c4_i32_238
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c3_i32 : BitVec 32 := 3#32
  let v10 : BitVec 32 := Scalar.minsi v9 c3_i32
  let c1_i32_239 : BitVec 32 := 1#32
  let v352 : BitVec 32 := Scalar.muli v10 c1_i32_239
  let v353 : BitVec 32 := Scalar.addi v351 v352
  v353.toNat
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v105 : BitVec 1 := Scalar.cmpi .sge v8 c1_i32_62
  let v121 : BitVec 32 := Scalar.extui v105
  let c0_i32_73 : BitVec 32 := 0#32
  let v122 : BitVec 1 := Scalar.cmpi .ne v121 c0_i32_73
  v122

def k0_off18 (d0 : Dev nD) : Fin 3 → Nat :=
  let c0_216 : Index := 0#32
  let c0_217 : Index := 0#32
  let c2_i32_65 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v108 : BitVec 32 := Scalar.addi c2_i32_65 v8
  let c3_i32_66 : BitVec 32 := 3#32
  let v109 : BitVec 32 := Scalar.subi v108 c3_i32_66
  let c0_i32_67 : BitVec 32 := 0#32
  let v110 : BitVec 32 := Scalar.maxsi v109 c0_i32_67
  let c512_i32_215 : BitVec 32 := 512#32
  let v335 : BitVec 32 := Scalar.muli v110 c512_i32_215
  let v336 : Index := Scalar.indexCast v335
  ![0, 0, v336.toNat]
def k0_dev20 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v348 : BitVec 32 := Scalar.muli v2 c16_i32_236
  let v349 : BitVec 32 := Scalar.addi c0_i32_237 v348
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v350 : BitVec 32 := Scalar.muli v5 c4_i32_238
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.subi v8 c1_i32_3
  let c0_i32 : BitVec 32 := 0#32
  let v12 : BitVec 32 := Scalar.maxsi v11 c0_i32
  let c1_i32_239 : BitVec 32 := 1#32
  let v352 : BitVec 32 := Scalar.muli v12 c1_i32_239
  let v353 : BitVec 32 := Scalar.addi v351 v352
  v353.toNat
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_61 : BitVec 32 := 2#32
  let v104 : BitVec 1 := Scalar.cmpi .sle v8 c2_i32_61
  let v127 : BitVec 32 := Scalar.extui v104
  let c0_i32_76 : BitVec 32 := 0#32
  let v128 : BitVec 1 := Scalar.cmpi .ne v127 c0_i32_76
  v128

def k0_off19 (d0 : Dev nD) : Fin 3 → Nat :=
  let c0_216 : Index := 0#32
  let c128_217 : Index := 128#32
  let c1_i32_63 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v106 : BitVec 32 := Scalar.addi c1_i32_63 v8
  let c3_i32_64 : BitVec 32 := 3#32
  let v107 : BitVec 32 := Scalar.minsi v106 c3_i32_64
  let c512_i32_215 : BitVec 32 := 512#32
  let v335 : BitVec 32 := Scalar.muli v107 c512_i32_215
  let v336 : Index := Scalar.indexCast v335
  ![0, 128, v336.toNat]
def k0_dev21 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v348 : BitVec 32 := Scalar.muli v2 c16_i32_236
  let v349 : BitVec 32 := Scalar.addi c0_i32_237 v348
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v350 : BitVec 32 := Scalar.muli v5 c4_i32_238
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c3_i32 : BitVec 32 := 3#32
  let v10 : BitVec 32 := Scalar.minsi v9 c3_i32
  let c1_i32_239 : BitVec 32 := 1#32
  let v352 : BitVec 32 := Scalar.muli v10 c1_i32_239
  let v353 : BitVec 32 := Scalar.addi v351 v352
  v353.toNat
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v105 : BitVec 1 := Scalar.cmpi .sge v8 c1_i32_62
  let v133 : BitVec 32 := Scalar.extui v105
  let c0_i32_79 : BitVec 32 := 0#32
  let v134 : BitVec 1 := Scalar.cmpi .ne v133 c0_i32_79
  v134

def k0_off20 (d0 : Dev nD) : Fin 3 → Nat :=
  let c0_216 : Index := 0#32
  let c128_217 : Index := 128#32
  let c2_i32_65 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v108 : BitVec 32 := Scalar.addi c2_i32_65 v8
  let c3_i32_66 : BitVec 32 := 3#32
  let v109 : BitVec 32 := Scalar.subi v108 c3_i32_66
  let c0_i32_67 : BitVec 32 := 0#32
  let v110 : BitVec 32 := Scalar.maxsi v109 c0_i32_67
  let c512_i32_215 : BitVec 32 := 512#32
  let v335 : BitVec 32 := Scalar.muli v110 c512_i32_215
  let v336 : Index := Scalar.indexCast v335
  ![0, 128, v336.toNat]
def k0_dev22 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v348 : BitVec 32 := Scalar.muli v2 c16_i32_236
  let v349 : BitVec 32 := Scalar.addi c0_i32_237 v348
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v350 : BitVec 32 := Scalar.muli v5 c4_i32_238
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.subi v8 c1_i32_3
  let c0_i32 : BitVec 32 := 0#32
  let v12 : BitVec 32 := Scalar.maxsi v11 c0_i32
  let c1_i32_239 : BitVec 32 := 1#32
  let v352 : BitVec 32 := Scalar.muli v12 c1_i32_239
  let v353 : BitVec 32 := Scalar.addi v351 v352
  v353.toNat
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_61 : BitVec 32 := 2#32
  let v104 : BitVec 1 := Scalar.cmpi .sle v8 c2_i32_61
  let v139 : BitVec 32 := Scalar.extui v104
  let c0_i32_82 : BitVec 32 := 0#32
  let v140 : BitVec 1 := Scalar.cmpi .ne v139 c0_i32_82
  v140

def k0_off21 (d0 : Dev nD) : Fin 3 → Nat :=
  let c0_216 : Index := 0#32
  let c256_217 : Index := 256#32
  let c1_i32_63 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v106 : BitVec 32 := Scalar.addi c1_i32_63 v8
  let c3_i32_64 : BitVec 32 := 3#32
  let v107 : BitVec 32 := Scalar.minsi v106 c3_i32_64
  let c512_i32_215 : BitVec 32 := 512#32
  let v335 : BitVec 32 := Scalar.muli v107 c512_i32_215
  let v336 : Index := Scalar.indexCast v335
  ![0, 256, v336.toNat]
def k0_dev23 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v348 : BitVec 32 := Scalar.muli v2 c16_i32_236
  let v349 : BitVec 32 := Scalar.addi c0_i32_237 v348
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v350 : BitVec 32 := Scalar.muli v5 c4_i32_238
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c3_i32 : BitVec 32 := 3#32
  let v10 : BitVec 32 := Scalar.minsi v9 c3_i32
  let c1_i32_239 : BitVec 32 := 1#32
  let v352 : BitVec 32 := Scalar.muli v10 c1_i32_239
  let v353 : BitVec 32 := Scalar.addi v351 v352
  v353.toNat
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v105 : BitVec 1 := Scalar.cmpi .sge v8 c1_i32_62
  let v145 : BitVec 32 := Scalar.extui v105
  let c0_i32_85 : BitVec 32 := 0#32
  let v146 : BitVec 1 := Scalar.cmpi .ne v145 c0_i32_85
  v146

def k0_off22 (d0 : Dev nD) : Fin 3 → Nat :=
  let c0_216 : Index := 0#32
  let c256_217 : Index := 256#32
  let c2_i32_65 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v108 : BitVec 32 := Scalar.addi c2_i32_65 v8
  let c3_i32_66 : BitVec 32 := 3#32
  let v109 : BitVec 32 := Scalar.subi v108 c3_i32_66
  let c0_i32_67 : BitVec 32 := 0#32
  let v110 : BitVec 32 := Scalar.maxsi v109 c0_i32_67
  let c512_i32_215 : BitVec 32 := 512#32
  let v335 : BitVec 32 := Scalar.muli v110 c512_i32_215
  let v336 : Index := Scalar.indexCast v335
  ![0, 256, v336.toNat]
def k0_dev24 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v348 : BitVec 32 := Scalar.muli v2 c16_i32_236
  let v349 : BitVec 32 := Scalar.addi c0_i32_237 v348
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v350 : BitVec 32 := Scalar.muli v5 c4_i32_238
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.subi v8 c1_i32_3
  let c0_i32 : BitVec 32 := 0#32
  let v12 : BitVec 32 := Scalar.maxsi v11 c0_i32
  let c1_i32_239 : BitVec 32 := 1#32
  let v352 : BitVec 32 := Scalar.muli v12 c1_i32_239
  let v353 : BitVec 32 := Scalar.addi v351 v352
  v353.toNat
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_61 : BitVec 32 := 2#32
  let v104 : BitVec 1 := Scalar.cmpi .sle v8 c2_i32_61
  let v151 : BitVec 32 := Scalar.extui v104
  let c0_i32_88 : BitVec 32 := 0#32
  let v152 : BitVec 1 := Scalar.cmpi .ne v151 c0_i32_88
  v152

def k0_off23 (d0 : Dev nD) : Fin 3 → Nat :=
  let c0_216 : Index := 0#32
  let c384_217 : Index := 384#32
  let c1_i32_63 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v106 : BitVec 32 := Scalar.addi c1_i32_63 v8
  let c3_i32_64 : BitVec 32 := 3#32
  let v107 : BitVec 32 := Scalar.minsi v106 c3_i32_64
  let c512_i32_215 : BitVec 32 := 512#32
  let v335 : BitVec 32 := Scalar.muli v107 c512_i32_215
  let v336 : Index := Scalar.indexCast v335
  ![0, 384, v336.toNat]
def k0_dev25 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v348 : BitVec 32 := Scalar.muli v2 c16_i32_236
  let v349 : BitVec 32 := Scalar.addi c0_i32_237 v348
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v350 : BitVec 32 := Scalar.muli v5 c4_i32_238
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c3_i32 : BitVec 32 := 3#32
  let v10 : BitVec 32 := Scalar.minsi v9 c3_i32
  let c1_i32_239 : BitVec 32 := 1#32
  let v352 : BitVec 32 := Scalar.muli v10 c1_i32_239
  let v353 : BitVec 32 := Scalar.addi v351 v352
  v353.toNat
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v105 : BitVec 1 := Scalar.cmpi .sge v8 c1_i32_62
  let v157 : BitVec 32 := Scalar.extui v105
  let c0_i32_91 : BitVec 32 := 0#32
  let v158 : BitVec 1 := Scalar.cmpi .ne v157 c0_i32_91
  v158

def k0_off24 (d0 : Dev nD) : Fin 3 → Nat :=
  let c0_216 : Index := 0#32
  let c384_217 : Index := 384#32
  let c2_i32_65 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v108 : BitVec 32 := Scalar.addi c2_i32_65 v8
  let c3_i32_66 : BitVec 32 := 3#32
  let v109 : BitVec 32 := Scalar.subi v108 c3_i32_66
  let c0_i32_67 : BitVec 32 := 0#32
  let v110 : BitVec 32 := Scalar.maxsi v109 c0_i32_67
  let c512_i32_215 : BitVec 32 := 512#32
  let v335 : BitVec 32 := Scalar.muli v110 c512_i32_215
  let v336 : Index := Scalar.indexCast v335
  ![0, 384, v336.toNat]
def k0_dev26 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v348 : BitVec 32 := Scalar.muli v2 c16_i32_236
  let v349 : BitVec 32 := Scalar.addi c0_i32_237 v348
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_238 : BitVec 32 := 4#32
  let v350 : BitVec 32 := Scalar.muli v5 c4_i32_238
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.subi v8 c1_i32_3
  let c0_i32 : BitVec 32 := 0#32
  let v12 : BitVec 32 := Scalar.maxsi v11 c0_i32
  let c1_i32_239 : BitVec 32 := 1#32
  let v352 : BitVec 32 := Scalar.muli v12 c1_i32_239
  let v353 : BitVec 32 := Scalar.addi v351 v352
  v353.toNat
def k0_off25 (d0 : Dev nD) : Fin 3 → Nat :=
  let c0 : Index := 0#32
  let c0_96 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32 : BitVec 32 := 512#32
  let v165 : BitVec 32 := Scalar.muli v8 c512_i32
  let v166 : Index := Scalar.indexCast v165
  ![0, 0, v166.toNat]
def k0_off26 (d0 : Dev nD) : Fin 3 → Nat :=
  let c0_114 : Index := 0#32
  let c128 : Index := 128#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_113 : BitVec 32 := 512#32
  let v191 : BitVec 32 := Scalar.muli v8 c512_i32_113
  let v192 : Index := Scalar.indexCast v191
  ![0, 128, v192.toNat]
def k0_off27 (d0 : Dev nD) : Fin 3 → Nat :=
  let c0_133 : Index := 0#32
  let c256 : Index := 256#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_132 : BitVec 32 := 512#32
  let v217 : BitVec 32 := Scalar.muli v8 c512_i32_132
  let v218 : Index := Scalar.indexCast v217
  ![0, 256, v218.toNat]
def k0_off28 (d0 : Dev nD) : Fin 3 → Nat :=
  let c0_153 : Index := 0#32
  let c384 : Index := 384#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_152 : BitVec 32 := 512#32
  let v243 : BitVec 32 := Scalar.muli v8 c512_i32_152
  let v244 : Index := Scalar.indexCast v243
  ![0, 384, v244.toNat]
abbrev stage0_0 : Fin 1 → Memref sig .tc .vmem S1x512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x512x2048 : Shape := ⟨3, ![4, 512, 2048]⟩
abbrev S_ : Shape := ⟨0, ![]⟩
abbrev S512x2048 : Shape := ⟨2, ![512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x512x2048, .bf16⟩
  | .hbm, ⟨1, _⟩ => ⟨S4x512x2048, .f32⟩
  | .hbm, ⟨2, _⟩ => ⟨S_, .f32⟩
  | .hbm, ⟨3, _⟩ => ⟨S512x2048, .f32⟩
  | .hbm, ⟨4, _⟩ => ⟨S512x2048, .bf16⟩
  | .hbm, ⟨5, _⟩ => ⟨S512x2048, .f32⟩
  | _, _ => ⟨S4x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdeal.Mesh.lean ====
/-
The mesh and the plan of the chain, without any resource: where a device stands on the z axis, who its neighbours
are, which of the twenty-four transfers it takes part in, and at which step of the program each one happens.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Chain

open Cert.KernelIdeal Cert.KernelIdeal.Gen
open Idealize.ShloMosaic
open Idealize.ShloMosaic.TcCoe

/-! ## Neighbours -/

set_option backward.proofsInPublic true in
/-- A device's place on the z axis, which is the mesh's innermost axis, of extent four. -/
def zF (c : Dev nD) : Fin 4 := ⟨c.val % 4, Nat.mod_lt _ (by decide)⟩

set_option backward.proofsInPublic true in
/-- The device one place further along z, the last place leading back to the first. -/
def up (c : Dev nD) : Dev nD := ⟨4 * (c.val / 4) + (c.val % 4 + 1) % 4, by have := c.isLt; simp only [nD] at *; omega⟩
set_option backward.proofsInPublic true in
/-- The device one place back along z, the first place leading to the last. -/
def dn (c : Dev nD) : Dev nD := ⟨4 * (c.val / 4) + (c.val % 4 + 3) % 4, by have := c.isLt; simp only [nD] at *; omega⟩

/-- A transfer: the flow (`true` towards larger z, `false` towards smaller), the round, the piece of 128 rows. -/
abbrev Slot : Type := Bool × Fin 3 × Fin 4

/-- The device the flow `d` leads to from `c`, and the one it comes from. -/
def tgt (d : Bool) (c : Dev nD) : Dev nD := cond d (up c) (dn c)
def src (d : Bool) (c : Dev nD) : Dev nD := cond d (dn c) (up c)

theorem src_tgt (d : Bool) (c : Dev nD) : src d (tgt d c) = c := by revert d c; decide +kernel
theorem tgt_src (d : Bool) (c : Dev nD) : tgt d (src d c) = c := by revert d c; decide +kernel

/-- The flow as a permutation of the devices. -/
def flow (d : Bool) : Dev nD ≃ Dev nD := ⟨tgt d, src d, src_tgt d, tgt_src d⟩

/-- Whether `c` sends in the slot `s`: towards larger z in round `r` the places up to `r`, towards smaller z the
    places from `3 - r`. -/
def active (s : Slot) (c : Dev nD) : Bool := cond s.1 (decide (c.val % 4 ≤ s.2.1.val)) (decide (3 ≤ c.val % 4 + s.2.1.val))
/-- Whether `c` receives in the slot `s`: whether the device before it sends. -/
def recvs (s : Slot) (c : Dev nD) : Bool := active s (src s.1 c)
/-- Whether the flow `d` has a device before `c`. -/
def hasSrc (d : Bool) (c : Dev nD) : Bool := cond d (decide (1 ≤ c.val % 4)) (decide (c.val % 4 ≤ 2))

theorem recvs_tgt (s : Slot) (c : Dev nD) : recvs s (tgt s.1 c) = active s c := by unfold recvs; rw [src_tgt]

/-- The chunk of 512 columns that `c` contributes in round `r` of the flow `d`. -/
def chunk (d : Bool) (r : Fin 3) (c : Dev nD) : Fin 4 :=
  cond d (⟨min (3 - r.val + c.val % 4) 3, by omega⟩) (⟨(r.val + c.val % 4 - 3) % 4, Nat.mod_lt _ (by decide)⟩)

/-- The place on the z axis as the program's 32-bit word. -/
def zw (c : Dev nD) : BitVec 32 := BitVec.ofNat 32 (c.val % 4)

/-! ## The entry handshake: each device signals the place before it and the place after it, itself at an end -/

/-- The device that `c`'s signal for the flow `e` goes to, and the duty of that device's barrier it pays. -/
def barDst (e : Bool) (c : Dev nD) : Dev nD := if hasSrc e c then src e c else c
def barDuty (e : Bool) (c : Dev nD) : Bool := if hasSrc e c then e else !e

theorem bar_inj : Function.Injective (fun x : Dev nD × Bool => (barDst x.2 x.1, barDuty x.2 x.1)) := by
  have h : ∀ (c c' : Dev nD) (e e' : Bool), barDst e c = barDst e' c' → barDuty e c = barDuty e' c' → c = c' ∧ e = e' := by decide +kernel
  rintro ⟨c, e⟩ ⟨c', e'⟩ hx
  obtain ⟨h1, h2⟩ := Prod.mk.inj hx
  obtain ⟨rfl, rfl⟩ := h c c' e e' h1 h2
  rfl

/-- Signals and barrier duties correspond one to one. -/
def barEquiv : Dev nD × Bool ≃ Dev nD × Bool :=
  Equiv.ofBijective _ ((Fintype.bijective_iff_injective_and_card _).mpr ⟨bar_inj, rfl⟩)

/-- With no device before `c` in a flow nothing of that flow reaches it, and the opposite flow sends nothing from it. -/
theorem recvs_of_not_hasSrc (e : Bool) (c : Dev nD) (h : hasSrc e c = false) (rp : Fin 3 × Fin 4) :
    recvs (e, rp) c = false ∧ active (!e, rp) c = false := by revert e c rp; decide +kernel

/-! ## The plan: at which step each send, receive and closing wait happens -/

/-- The step at which the slot is sent. -/
def Ts (s : Slot) : ℕ :=
  if s.2.1.val = 0 then 2 * s.2.2.val + cond s.1 0 1 else 8 + (s.2.1.val - 1) * 16 + 4 * s.2.2.val + 2 * cond s.1 0 1 + 1
/-- The step at which its arrival is awaited. -/
def Tr (s : Slot) : ℕ :=
  if s.2.1.val < 2 then 8 + s.2.1.val * 16 + 4 * s.2.2.val + 2 * cond s.1 0 1 else 40 + 3 * s.2.2.val + cond s.1 0 1
/-- The step at which the end of its sending is awaited. -/
def Td (s : Slot) : ℕ := 52 + 2 * (4 * s.2.1.val + s.2.2.val) + cond s.1 0 1
/-- The step at which the piece `p` of the result is written. -/
def To (p : Fin 4) : ℕ := 42 + 3 * p.val

/-- The state of the slot's sending at step `t`: before it, under way, over. -/
def sph (s : Slot) (t : ℕ) : Fin 3 := if t ≤ Ts s then 0 else if t ≤ Td s then 1 else 2
/-- Whether its arrival has been awaited by step `t`. -/
def rph (s : Slot) (t : ℕ) : Bool := decide (Tr s < t)
/-- Whether the piece has been written by step `t`. -/
def oph (p : Fin 4) (t : ℕ) : Bool := decide (To p < t)

theorem sph_Ts : ∀ s s' : Slot, s' ≠ s → sph s' (Ts s + 1) = sph s' (Ts s) := by decide +kernel
theorem rph_Ts : ∀ s s' : Slot, rph s' (Ts s + 1) = rph s' (Ts s) := by decide +kernel
theorem oph_Ts : ∀ (s : Slot) (p : Fin 4), oph p (Ts s + 1) = oph p (Ts s) := by decide +kernel
theorem sph_Ts_self : ∀ s : Slot, sph s (Ts s) = 0 ∧ sph s (Ts s + 1) = 1 := by decide +kernel
theorem sph_Tr : ∀ s s' : Slot, sph s' (Tr s + 1) = sph s' (Tr s) := by decide +kernel
theorem rph_Tr : ∀ s s' : Slot, s' ≠ s → rph s' (Tr s + 1) = rph s' (Tr s) := by decide +kernel
theorem oph_Tr : ∀ (s : Slot) (p : Fin 4), oph p (Tr s + 1) = oph p (Tr s) := by decide +kernel
theorem rph_Tr_self : ∀ s : Slot, rph s (Tr s) = false ∧ rph s (Tr s + 1) = true := by decide +kernel
theorem sph_Td : ∀ s s' : Slot, s' ≠ s → sph s' (Td s + 1) = sph s' (Td s) := by decide +kernel
theorem rph_Td : ∀ s s' : Slot, rph s' (Td s + 1) = rph s' (Td s) := by decide +kernel
theorem oph_Td : ∀ (s : Slot) (p : Fin 4), oph p (Td s + 1) = oph p (Td s) := by decide +kernel
theorem sph_Td_self : ∀ s : Slot, sph s (Td s) = 1 ∧ sph s (Td s + 1) = 2 := by decide +kernel
theorem sph_To : ∀ (p : Fin 4) (s' : Slot), sph s' (To p + 1) = sph s' (To p) := by decide +kernel
theorem rph_To : ∀ (p : Fin 4) (s' : Slot), rph s' (To p + 1) = rph s' (To p) := by decide +kernel
theorem oph_To : ∀ p p' : Fin 4, p' ≠ p → oph p' (To p + 1) = oph p' (To p) := by decide +kernel
theorem start_ph : ∀ s : Slot, sph s 0 = 0 ∧ rph s 0 = false := by decide +kernel
theorem start_oph : ∀ p : Fin 4, oph p 0 = false := by decide +kernel
theorem end_ph : ∀ s : Slot, sph s 76 = 2 ∧ rph s 76 = true := by decide +kernel
theorem end_oph : ∀ p : Fin 4, oph p 76 = true := by decide +kernel
theorem oph_To_self : ∀ p : Fin 4, oph p (To p) = false ∧ oph p (To p + 1) = true := by decide +kernel
/-- When a slot of a later round is sent, the arrival of the round before has been awaited; -/
theorem rph_before : ∀ (d : Bool) (p : Fin 4) (r : Fin 2), rph (d, r.castSucc, p) (Ts (d, r.succ, p)) = true := by decide +kernel
/-- and when a piece of the result is written, the last arrivals have. -/
theorem rph_last : ∀ (d : Bool) (p : Fin 4), rph (d, 2, p) (To p) = true := by decide +kernel
/-- A device with one before it that sends in a later round received in the round before; with one before it, it receives
    in the last round. -/
theorem recvs_before : ∀ (d : Bool) (p : Fin 4) (r : Fin 2) (c : Dev nD), active (d, r.succ, p) c = true → hasSrc d c = true →
    recvs (d, r.castSucc, p) c = true := by decide +kernel
theorem recvs_last : ∀ (d : Bool) (p : Fin 4) (c : Dev nD), hasSrc d c = true → recvs (d, 2, p) c = true := by decide +kernel
/-- A slot still to be sent when the arrival of `s` is awaited is sent after `s`; -/
theorem Ts_lt_of_pending : ∀ s s' : Slot, sph s' (Tr s) = 0 → Ts s < Ts s' := by decide +kernel
/-- and when the end of a sending is awaited, every slot has been sent. -/
theorem not_pending_Td : ∀ s s' : Slot, sph s' (Td s) ≠ 0 := by decide +kernel

end Cert.KernelIdeal.Chain

end
-- ==== Proof.KernelIdeal.Cells.lean ====
/-
The buffers, the semaphores and the values of the chain: the slots of the four scratch buffers, the semaphore cells
with their names, and what each device sends in each slot and writes as its result.
-/
module

public import proofs.«01_k».proof.Proof.KernelIdeal.Mesh

@[expose] public section

noncomputable section

namespace Cert.KernelIdeal.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers -/

abbrev xM : Memref sig .tc .vmem S1x512x2048 .bf16 := Memref.whole cc0_stg0_0
abbrev oM : Memref sig .tc .vmem S512x512 .f32 := Memref.whole cc0_stg1_0
/-- The buffer a flow's payloads are laid in before they are sent, and the one they arrive in. -/
def sbM (d : Bool) : Memref sig .tc .vmem S3x4x128x512 .bf16 :=
  match d with | true => Memref.whole cc0_scratch0 | false => Memref.whole cc0_scratch1
def rbM (d : Bool) : Memref sig .tc .vmem S3x4x128x512 .bf16 :=
  match d with | true => Memref.whole cc0_scratch2 | false => Memref.whole cc0_scratch3

def soff (s : Slot) : Fin 4 → ℕ := ![s.2.1.val, s.2.2.val, 0, 0]
theorem soff_inb (s : Slot) : ∀ a, soff s a + S1x1x128x512.size a ≤ S3x4x128x512.size a := by revert s; decide +kernel
/-- The slot's part of a scratch buffer. -/
abbrev srect (s : Slot) : Rect S3x4x128x512 := Rect.unit (s := S3x4x128x512) (soff s) S1x1x128x512.size (soff_inb s)
/-- The slot of a scratch buffer as the transfers name it. -/
abbrev slotM (M : Memref sig .tc .vmem S3x4x128x512 .bf16) (s : Slot) : Memref sig .tc .vmem S128x512 .bf16 :=
  (M.slice (srect s) (fun _ => rfl)).squeeze S128x512 squeezes_S1x1x128x512_S128x512

def xoff (p j : Fin 4) : Fin 3 → ℕ := ![0, 128 * p.val, 512 * j.val]
theorem xoff_inb (p j : Fin 4) : ∀ a, xoff p j a + S1x128x512.size a ≤ S1x512x2048.size a := by revert p j; decide +kernel
abbrev xrect (p j : Fin 4) : Rect S1x512x2048 := Rect.unit (s := S1x512x2048) (xoff p j) S1x128x512.size (xoff_inb p j)

def ooff (p : Fin 4) : Fin 2 → ℕ := ![128 * p.val, 0]
theorem ooff_inb (p : Fin 4) : ∀ a, ooff p a + S128x512.size a ≤ S512x512.size a := by revert p; decide +kernel
abbrev orect (p : Fin 4) : Rect S512x512 := Rect.unit (s := S512x512) (ooff p) S128x512.size (ooff_inb p)

/-! ## Semaphores -/

abbrev barS : Sem sig := (SemArray.scalar (sig.barrier 0 rfl) : Sems sig S_).sem

def ssA (d : Bool) : DmaSems sig S3x4 := match d with | true => cc0_scratch4 | false => cc0_scratch5
def rsA (d : Bool) : DmaSems sig S3x4 := match d with | true => cc0_scratch6 | false => cc0_scratch7

def semoff (s : Slot) : Fin 2 → ℕ := ![s.2.1.val, s.2.2.val]
theorem semoff_inb (s : Slot) : ∀ a, semoff s a + S1x1.size a ≤ S3x4.size a := by revert s; decide +kernel
abbrev semAt (A : DmaSems sig S3x4) (s : Slot) : DmaSem sig :=
  ((A.slice (Rect.unit (s := S3x4) (semoff s) S1x1.size (semoff_inb s))).squeeze S_ squeezes_S1x1_S_).sem
/-- The slot's sending semaphore and its receiving one. -/
def sS (s : Slot) : DmaSem sig := semAt (ssA s.1) s
def rS (s : Slot) : DmaSem sig := semAt (rsA s.1) s

/-- The names of a device's cells: its barrier (`none`), a slot's sending (`true`) or receiving (`false`) semaphore. -/
abbrev CK : Type := Option (Bool × Slot)
def csem (k : CK) : SemLoc sig :=
  match k with | none => .reg barS | some (true, s) => .dma (sS s) | some (false, s) => .dma (rS s)

theorem sem_inj : ∀ b b' : Bool, ∀ s s' : Slot, cond b (sS s) (rS s) = cond b' (sS s') (rS s') → b = b' ∧ s = s' := by decide +kernel

theorem csem_inj : Function.Injective csem := by
  have e : ∀ b s, csem (some (b, s)) = .dma (cond b (sS s) (rS s)) := fun b s => by cases b <;> rfl
  rintro (_ | ⟨b, s⟩) (_ | ⟨b', s'⟩) h
  · rfl
  · rw [e] at h; exact nomatch h
  · rw [e] at h; exact nomatch h
  · rw [e, e] at h
    obtain ⟨rfl, rfl⟩ := sem_inj b b' s s' (SemLoc.dma.inj h)
    rfl

abbrev barCell (c : Dev nD) : GSem nD τ sig := ((c : Thread nD τ), .reg barS)
abbrev sendCell (c : Dev nD) (s : Slot) : GSem nD τ sig := ((c : Thread nD τ), .dma (sS s))
abbrev recvCell (c : Dev nD) (s : Slot) : GSem nD τ sig := ((c : Thread nD τ), .dma (rS s))
abbrev kcell (ck : Dev nD × CK) : GSem nD τ sig := ((ck.1 : Thread nD τ), csem ck.2)

open Classical in
/-- The name a semaphore has, if it is one of the chain's. -/
def kindOf (sm : SemLoc sig) : Option CK := if h : ∃ k, csem k = sm then some h.choose else none

theorem kindOf_csem (k : CK) : kindOf (csem k) = some k := by
  unfold kindOf
  have h : ∃ k', csem k' = csem k := ⟨k, rfl⟩
  rw [dif_pos h]; exact congrArg some (csem_inj h.choose_spec)
theorem kind_bar : kindOf (.reg barS) = some none := kindOf_csem none
theorem kind_send (s : Slot) : kindOf (.dma (sS s)) = some (some (true, s)) := kindOf_csem (some (true, s))
theorem kind_recv (s : Slot) : kindOf (.dma (rS s)) = some (some (false, s)) := kindOf_csem (some (false, s))
theorem kindOf_of_ne (sm : SemLoc sig) (h : ∀ k, csem k ≠ sm) : kindOf sm = none := by
  unfold kindOf; rw [dif_neg fun ⟨k, hk⟩ => h k hk]

/-- What one transfer credits. -/
def N : ℕ := (slotM (rbM true) (true, 0, 0)).view.dmaCredit
theorem N_pos : 0 < N := View.dmaCredit_pos _ (by decide)
theorem credit_rb (d : Bool) (s : Slot) : (slotM (rbM d) s).view.dmaCredit = N := by cases d <;> rfl
theorem credit_sb (d : Bool) (s : Slot) : (slotM (sbM d) s).view.dmaCredit = N := by cases d <;> rfl

/-! ## Values -/

variable (m : (ℓ : Loc nD τ sig) → Buf (Elt F) ℓ)

/-- Device `c`'s block of `x`, as its staging buffer holds it. -/
def xstg (c : Dev nD) : (cc0_stg0_0 : Ref sig .tc).ty.Contents (Elt F) :=
  (win0_0.blk (0 : Fin 1)).view.read (Elt F) (m ((c : Thread nD τ).loc main_arg0))

/-- Piece `p` of the chunk `j` of device `c`'s block. -/
def xc (c : Dev nD) (p j : Fin 4) : Vec F S1x128x512 .bf16 :=
  (xM : Memref sig .tc .vmem S1x512x2048 .bf16).view.readAt (Elt F) (xrect p j).toLoadRect (xstg m c)

/-- What stands for a payload that no device sends. -/
def nothing : Vec F S1x1x128x512 .bf16 := fun _ => Scalar.ofBits .bf16 0x0000#16

/-- A payload of a later round from the chunk's piece and what arrived in the round before. -/
def addPay (d : Bool) (c : Dev nD) (x : Vec F S1x128x512 .bf16) (v : Vec F S1x1x128x512 .bf16) : FVec F S1x1x128x512 .bf16 :=
  match d with | true => k0_pay9 (zw c) x v | false => k0_pay10 (zw c) x v

/-- What device `c` lays in the slot of round `r` and piece `p` of the flow `d`: the piece of its chunk, and in a later
    round added to what arrived from the device before it. -/
def PR (d : Bool) : ℕ → Fin 4 → Dev nD → FVec F S1x1x128x512 .bf16
  | 0, p, c => k0_pay1 (xc m c p (chunk d 0 c))
  | r + 1, p, c => addPay d c (xc m c p (chunk d (Fin.ofNat 3 (r + 1)) c)) (if hasSrc d c then PR d r p (src d c) else nothing)
/-- The same by slot. -/
def pay (s : Slot) (c : Dev nD) : FVec F S1x1x128x512 .bf16 := PR m s.1 s.2.1.val s.2.2 c

/-- The last arrival of the flow `d` at `c`. -/
def lastIn (d : Bool) (p : Fin 4) (c : Dev nD) : Vec F S1x1x128x512 .bf16 := if hasSrc d c then PR m d 2 p (src d c) else nothing

/-- Piece `p` of the result of device `c`. -/
def OUT (c : Dev nD) (p : Fin 4) : FVec F S128x512 .f32 :=
  k0_pay25 (zw c) (xc m c p (zF c)) (lastIn m true p c) (lastIn m false p c)

set_option backward.proofsInPublic true in
/-- The result of device `c`. -/
def outAt (c : Dev nD) : (cc0_stg1_0 : Ref sig .tc).ty.Contents (Elt F) :=
  fun i => OUT m c ⟨(i 0).val / 128, by have h : (i 0).val < 512 := (i 0).isLt; omega⟩
    (Shape.pair ⟨(i 0).val % 128, Nat.mod_lt _ (by decide)⟩ (i 1))

theorem sge_zw : ∀ c : Dev nD, Scalar.cmpi .sge (zw c) 1#32 = cond (hasSrc true c) 1#1 0#1 := by decide +kernel
theorem sle_zw : ∀ c : Dev nD, Scalar.cmpi .sle (zw c) 2#32 = cond (hasSrc false c) 1#1 0#1 := by decide +kernel

/-- A payload of a later round does not depend on what lies in the arrival slot of a device with none before it. -/
theorem addPay_congr (d : Bool) (c : Dev nD) (x : Vec F S1x128x512 .bf16) (v w : Vec F S1x1x128x512 .bf16)
    (h : hasSrc d c = true → v = w) : addPay d c x v = addPay d c x w := by
  cases hs : hasSrc d c with
  | true => rw [h hs]
  | false =>
    cases d with
    | true => unfold addPay; dsimp only; unfold k0_pay9; simp only [sge_zw, hs]; rfl
    | false => unfold addPay; dsimp only; unfold k0_pay10; simp only [sle_zw, hs]; rfl

theorem out_congr (c : Dev nD) (x : Vec F S1x128x512 .bf16) (v v' w w' : Vec F S1x1x128x512 .bf16)
    (h : hasSrc true c = true → v = v') (h' : hasSrc false c = true → w = w') : k0_pay25 (zw c) x v w = k0_pay25 (zw c) x v' w' := by
  have hl : k0_pay25 (zw c) x v w = k0_pay25 (zw c) x v' w := by
    cases hs : hasSrc true c with
    | true => rw [h hs]
    | false => unfold k0_pay25; simp only [sge_zw, hs]; rfl
  have hr : k0_pay25 (zw c) x v' w = k0_pay25 (zw c) x v' w' := by
    cases hs : hasSrc false c with
    | true => rw [h' hs]
    | false => unfold k0_pay25; simp only [sle_zw, hs]; rfl
  exact hl.trans hr

end Cert.KernelIdeal.Chain

end
-- ==== Proof.KernelIdeal.Protocol.lean ====
/-
The protocol: what each semaphore cell's units hand over, what each device owes, and the levels of the cells.

Every cell is used in one round. A device's barrier has two duties of one unit, one per flow; the duty of the flow `e`
hands the device the arrival slots it will send into in that flow. A slot's receiving cell hands over the slot holding
the sender's payload, its sending cell the slot the payload was laid in.
-/
module

public import proofs.«01_k».proof.Proof.KernelIdeal.Cells

@[expose] public section

noncomputable section

namespace Cert.KernelIdeal.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots held -/

/-- The slot `s` of the buffer `M` of device `c`, held at the contents `f`. -/
def slotPts (M : Memref sig .tc .vmem S3x4x128x512 .bf16) (c : Dev nD) (s : Slot) (f : Buf (Elt F) (M.view.loc (c : Thread nD τ))) : sProp 𝕄 :=
  M.view.loc (c : Thread nD τ) ↦[(M.access (srect s)).set]{fullShare} f
/-- The slot at some contents. -/
def slotAny (M : Memref sig .tc .vmem S3x4x128x512 .bf16) (c : Dev nD) (s : Slot) : sProp 𝕄 := iprop(∃ f, slotPts (F := F) M c s f)
/-- The slot at contents that read `v`. -/
def slotHolds (M : Memref sig .tc .vmem S3x4x128x512 .bf16) (c : Dev nD) (s : Slot) (v : Vec F S1x1x128x512 .bf16) : sProp 𝕄 :=
  iprop(∃ f, ⌜M.view.readAt (Elt F) (srect s).toLoadRect f = v⌝ ∗ slotPts (F := F) M c s f)

instance slotPts_storable (M) (c : Dev nD) (s f) : BI.Storable (upEmb : UEmb _ 𝕄) (slotPts (F := F) M c s f) := by unfold slotPts; infer_instance
instance slotAny_storable (M) (c : Dev nD) (s) : BI.Storable (upEmb : UEmb _ 𝕄) (slotAny (F := F) M c s) := by unfold slotAny; infer_instance
instance slotHolds_storable (M) (c : Dev nD) (s v) : BI.Storable (upEmb : UEmb _ 𝕄) (slotHolds (F := F) M c s v) := by unfold slotHolds; infer_instance

theorem slotHolds_any (M) (c : Dev nD) (s v) : slotHolds (F := F) M c s v ⊢ slotAny (F := F) M c s := by
  unfold slotHolds slotAny; iintro ⟨%f, -, H⟩; iexists f; iexact H

/-! ## The schedule -/

variable (m : (ℓ : Loc nD τ sig) → Buf (Elt F) ℓ)

/-- What is given if `b` holds, nothing otherwise. -/
def onlyIf (b : Bool) (P : sProp 𝕄) : sProp 𝕄 := match b with | true => P | false => iprop(emp)
instance onlyIf_storable (b : Bool) (P : sProp 𝕄) [BI.Storable (upEmb : UEmb _ 𝕄) P] : BI.Storable (upEmb : UEmb _ 𝕄) (onlyIf (F := F) b P) := by
  cases b
  · exact inferInstanceAs (BI.Storable _ iprop(emp))
  · exact inferInstanceAs (BI.Storable _ P)

/-- What the duty `e` of device `c`'s barrier hands it: the arrival slots of the flow `e` it sends into. -/
def barPay (c : Dev nD) (e : Bool) : sProp 𝕄 :=
  bigSep Finset.univ fun rp : Fin 3 × Fin 4 => onlyIf (active (e, rp) c) (slotAny (F := F) (rbM e) (tgt e c) (e, rp))

/-- The payload of a cell by its name. -/
def payOf (c : Dev nD) (e : Bool) : Option CK → sProp 𝕄
  | some none => barPay c e
  | some (some (true, s)) => slotAny (F := F) (sbM s.1) c s
  | some (some (false, s)) => slotHolds (rbM s.1) c s (pay m s (src s.1 c))
  | none => iprop(emp)

/-- The duties of a cell by its name. -/
def dutiesOf (c : Dev nD) : Option CK → Finset Bool
  | some none => Finset.univ
  | some (some (true, s)) => if active s c then {false} else ∅
  | some (some (false, s)) => if recvs s c then {false} else ∅
  | none => ∅

def amountOf : Option CK → ℕ
  | some none => 1
  | _ => N

def rd : Rounds.Schedule (GSem nD τ sig) Bool 𝕄 where
  duties g r := if r = 0 ∧ g.1.2 = .tc then dutiesOf g.1.1 (kindOf g.2) else ∅
  unitless _ := False
  amount g _ _ := amountOf (kindOf g.2)
  payload g _ e := payOf m g.1.1 e (kindOf g.2)
  amount_pos g _ _ _ := by
    unfold amountOf; split
    · exact Nat.one_pos
    · exact N_pos

instance payOf_storable (c : Dev nD) (e : Bool) (k : Option CK) : BI.Storable (upEmb : UEmb _ 𝕄) (payOf m c e k) := by
  unfold payOf barPay; split <;> infer_instance
instance rd_payload_storable (g : GSem nD τ sig) (r : ℕ) (e : Bool) : BI.Storable (upEmb : UEmb _ 𝕄) ((rd (F := F) m).payload g r e) :=
  inferInstanceAs (BI.Storable _ (payOf m g.1.1 e (kindOf g.2)))

section Sched
variable (c : Dev nD) (s : Slot) (e : Bool)

theorem duties_bar : (rd (F := F) m).duties (barCell c) 0 = Finset.univ := by dsimp only [rd]; rw [if_pos ⟨rfl, rfl⟩, kind_bar]; rfl
theorem duties_send (h : active s c = true) : (rd (F := F) m).duties (sendCell c s) 0 = {false} := by
  dsimp only [rd]; rw [if_pos ⟨rfl, rfl⟩, kind_send]; exact if_pos h
theorem duties_recv (h : recvs s c = true) : (rd (F := F) m).duties (recvCell c s) 0 = {false} := by
  dsimp only [rd]; rw [if_pos ⟨rfl, rfl⟩, kind_recv]; exact if_pos h
theorem duties_later (g : GSem nD τ sig) : ∀ r, 1 ≤ r → (rd (F := F) m).duties g r = ∅ :=
  fun r hr => by dsimp only [rd]; rw [if_neg fun h => by omega]
theorem duties_send_none (h : active s c = false) : ∀ r, 0 ≤ r → (rd (F := F) m).duties (sendCell c s) r = ∅ := fun r _ => by
  dsimp only [rd]; split
  · rw [kind_send]; exact if_neg (by rw [h]; decide)
  · rfl
theorem duties_recv_none (h : recvs s c = false) : ∀ r, 0 ≤ r → (rd (F := F) m).duties (recvCell c s) r = ∅ := fun r _ => by
  dsimp only [rd]; split
  · rw [kind_recv]; exact if_neg (by rw [h]; decide)
  · rfl

theorem amount_bar : (rd (F := F) m).amount (barCell c) 0 e = 1 := by dsimp only [rd]; rw [kind_bar]; rfl
theorem amount_send : (rd (F := F) m).amount (sendCell c s) 0 e = N := by dsimp only [rd]; rw [kind_send]; rfl
theorem amount_recv : (rd (F := F) m).amount (recvCell c s) 0 e = N := by dsimp only [rd]; rw [kind_recv]; rfl

theorem expect_bar : (rd (F := F) m).expect (barCell c) 0 = 2 := by
  unfold Schedule.expect Schedule.amountOf
  rw [duties_bar, Finset.sum_congr rfl fun d _ => amount_bar m c d]; rfl
theorem expect_send (h : active s c = true) : (rd (F := F) m).expect (sendCell c s) 0 = N := by
  unfold Schedule.expect Schedule.amountOf; rw [duties_send m c s h, Finset.sum_singleton, amount_send]
theorem expect_recv (h : recvs s c = true) : (rd (F := F) m).expect (recvCell c s) 0 = N := by
  unfold Schedule.expect Schedule.amountOf; rw [duties_recv m c s h, Finset.sum_singleton, amount_recv]

theorem payload_bar : (rd (F := F) m).payload (barCell c) 0 e = barPay c e := by dsimp only [rd]; rw [kind_bar]; rfl
theorem payload_send : (rd (F := F) m).payload (sendCell c s) 0 e = slotAny (F := F) (sbM s.1) c s := by dsimp only [rd]; rw [kind_send]; rfl
theorem payload_recv : (rd (F := F) m).payload (recvCell c s) 0 e = slotHolds (rbM s.1) c s (pay m s (src s.1 c)) := by
  dsimp only [rd]; rw [kind_recv]; rfl

theorem rest_bar : bigSep ((rd (F := F) m).duties (barCell c) 0 \ ∅) (fun d => (rd (F := F) m).payload (barCell c) 0 d)
    = iprop(barPay (F := F) c true ∗ barPay (F := F) c false) := by
  rw [Finset.sdiff_empty, duties_bar, bigSep_univ_eq_bigSepL [true, false] (by decide) (by decide), bigSepL_cons_cons, bigSepL_singleton,
    payload_bar, payload_bar]
  rfl
theorem rest_send (h : active s c = true) : bigSep ((rd (F := F) m).duties (sendCell c s) 0 \ ∅) (fun d => (rd (F := F) m).payload (sendCell c s) 0 d)
    = slotAny (F := F) (sbM s.1) c s := by
  rw [Finset.sdiff_empty, duties_send m c s h, bigSep_singleton, payload_send]
theorem rest_recv (h : recvs s c = true) : bigSep ((rd (F := F) m).duties (recvCell c s) 0 \ ∅) (fun d => (rd (F := F) m).payload (recvCell c s) 0 d)
    = slotHolds (rbM s.1) c s (pay m s (src s.1 c)) := by
  rw [Finset.sdiff_empty, duties_recv m c s h, bigSep_singleton, payload_recv]

/-- Device `c`'s signal for the flow `e` hands over the arrival slots of that flow in which `c` receives. -/
theorem barPay_intro : (bigSep Finset.univ fun rp : Fin 3 × Fin 4 => onlyIf (recvs (e, rp) c) (slotAny (F := F) (rbM e) c (e, rp)))
    ⊢ barPay (F := F) (barDst e c) (barDuty e c) := by
  unfold barPay barDst barDuty
  cases h : hasSrc e c with
  | true =>
    simp only [if_true]
    refine bigSep_mono fun rp _ => ?_
    rw [tgt_src]; exact BI.Entails.refl _
  | false =>
    simp only [Bool.false_eq_true, if_false]
    refine bigSep_mono fun rp _ => ?_
    rw [(recvs_of_not_hasSrc e c h rp).1, (recvs_of_not_hasSrc e c h rp).2]; exact BI.Entails.refl _

end Sched

/-! ## What each device owes, and the levels -/

/-- What a device still owes at step `t` after the handshake: the credit of each transfer it has yet to send. -/
def owed (c : Dev nD) (t : ℕ) : CellTallies nD τ sig Unit :=
  ∑ s : Slot, if active s c = true ∧ sph s t = 0 then tallyAt (recvCell (tgt s.1 c) s) () N else 0
/-- and before its second signal, and at launch. -/
def O₁ (c : Dev nD) : CellTallies nD τ sig Unit := owed c 0 + tallyAt (barCell (barDst false c)) () 1
def O₀ (c : Dev nD) : CellTallies nD τ sig Unit := O₁ c + tallyAt (barCell (barDst true c)) () 1

def L (g : GSem nD τ sig) : Finset Unit := if g.1.2 = .tc then {()} else ∅
/-- The barrier at 1, a slot's receiving cell above it in the order of sending, everything else at 0. -/
def lvOf : Option CK → ℕ
  | some none => 1
  | some (some (false, s)) => 2 + Ts s
  | _ => 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; dsimp only; rw [kind_bar]; rfl
theorem lv_recv (c : Dev nD) (s : Slot) : lv (recvCell c s) () = 2 + Ts s := by unfold lv; dsimp only; rw [kind_recv]; rfl
theorem lv_send (c : Dev nD) (s : Slot) : lv (sendCell c s) () = 0 := by unfold lv; dsimp only; rw [kind_send]; rfl

theorem owed_pos {c : Dev nD} {t : ℕ} {g : GSem nD τ sig} {u : Unit} (h : 0 < owed c t g u) :
    ∃ s, active s c = true ∧ sph s t = 0 ∧ g = recvCell (tgt s.1 c) s := by
  unfold owed at h
  rw [Finset.sum_apply, Finsupp.finset_sum_apply] at h
  obtain ⟨s, -, hs⟩ := Finset.exists_ne_zero_of_sum_ne_zero (Nat.pos_iff_ne_zero.mp h)
  by_cases hc : active s c = true ∧ sph s t = 0
  · refine ⟨s, hc.1, hc.2, ?_⟩
    rw [if_pos hc, tallyAt_apply] at hs
    by_contra hg; exact hs (if_neg fun h' => hg h'.1)
  · rw [if_neg hc] at hs; exact absurd rfl hs

theorem pos_add {A : CellTallies nD τ sig Unit} {g₁ g : GSem nD τ sig} {n : ℕ} {u : Unit} (h : 0 < (A + tallyAt g₁ () n) g u) :
    g = g₁ ∨ 0 < A g u := by
  by_cases hg : g = g₁
  · exact .inl hg
  · refine .inr ?_
    have e : (tallyAt g₁ () n : CellTallies nD τ sig Unit) g u = 0 := by
      rw [tallyAt_apply]; exact if_neg fun h' => hg h'.1
    have h2 : 0 < A g u + (tallyAt g₁ () n : CellTallies nD τ sig Unit) g u := h
    omega

theorem O₀_pos {c : Dev nD} {g : GSem nD τ sig} {u : Unit} (h : 0 < O₀ c g u) :
    (∃ s d, g = recvCell d s) ∨ ∃ d, g = barCell d := by
  rcases pos_add h with h | h
  · exact .inr ⟨_, h⟩
  rcases pos_add h with h | h
  · exact .inr ⟨_, h⟩
  obtain ⟨s, -, -, hg⟩ := owed_pos h
  exact .inl ⟨s, _, hg⟩

/-- A device may wait on a cell below every cell it owes. -/
theorem mayWait_owed (c : Dev nD) (sm : SemLoc sig) (t : ℕ) (h : ∀ s, sph s t = 0 → lv ((c : Thread nD τ), sm) () < 2 + Ts s) :
    (levAts L lv : sProp 𝕄) ⊢ MayWait (c : Thread nD τ) sm () (owed c t) :=
  MayOwe.of_cut (L := L) (lev := lv) (lv ((c : Thread nD τ), sm) ())
    (fun p hp => by rw [Finset.mem_singleton.mp hp, L_tc]; exact Finset.mem_singleton_self _)
    (fun g u hg => by obtain ⟨s, -, -, rfl⟩ := owed_pos hg; exact Finset.mem_singleton_self _)
    (fun p hp => by rw [Finset.mem_singleton.mp hp])
    (fun g u hg => by
      obtain ⟨s, -, hs, rfl⟩ := owed_pos hg
      rw [lv_recv]; exact h s hs)

/-- It may wait on a staging semaphore whatever it owes at launch. -/
theorem mayWait_stage (c : Dev nD) (sm : SemLoc sig) (hq : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨s, d, rfl⟩ | ⟨d, rfl⟩ <;> exact Finset.mem_singleton_self _)
      (fun p hp => by rw [Finset.mem_singleton.mp hp]; exact le_of_eq hq)
      (fun g u hg => by
        rcases O₀_pos hg with ⟨s, d, rfl⟩ | ⟨d, rfl⟩
        · rw [lv_recv]; omega
        · rw [lv_bar]; decide)
  · rw [MayWait_zero]; iintro -; iempintro

/-- Sending a slot pays its credit off what is owed; -/
theorem owed_Ts (c : Dev nD) (s : Slot) (h : active s c = true) :
    owed c (Ts s) = owed c (Ts s + 1) + tallyAt (recvCell (tgt s.1 c) s) () N := by
  unfold owed
  rw [← Finset.add_sum_erase _ _ (Finset.mem_univ s), ← Finset.add_sum_erase (a := s) _ (fun s' : Slot => if active s' c = true ∧ sph s' (Ts s + 1) = 0 then _ else _) (Finset.mem_univ s),
    if_pos ⟨h, (sph_Ts_self s).1⟩, if_neg (fun h' => by rw [(sph_Ts_self s).2] at h'; exact absurd h'.2 (by decide)), zero_add, add_comm]
  congr 1
  exact Finset.sum_congr rfl fun s' hs' => by rw [sph_Ts s s' (Finset.ne_of_mem_erase hs')]
/-- every other step leaves it. -/
theorem owed_congr (c : Dev nD) {t t' : ℕ} (h : ∀ s, active s c = true → (sph s t' = 0 ↔ sph s t = 0)) : owed c t' = owed c t := by
  unfold owed
  refine Finset.sum_congr rfl fun s _ => ?_
  by_cases ha : active s c = true
  · simp only [h s ha]
  · rw [if_neg fun h' => ha h'.1, if_neg fun h' => ha h'.1]
theorem owed_end (c : Dev nD) : owed c 76 = 0 := by
  unfold owed
  exact Finset.sum_eq_zero fun s _ => if_neg fun h => by rw [(end_ph s).1] at h; exact absurd h.2 (by decide)

end Cert.KernelIdeal.Chain

end
-- ==== Proof.KernelIdeal.State.lean ====
/-
What a device holds between two steps of its program, as a function of the step, and how one step changes it.
-/
module

public import proofs.«01_k».proof.Proof.KernelIdeal.Protocol

@[expose] public section

noncomputable section

namespace Cert.KernelIdeal.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## The records every device keeps -/

/-- Every cell's invariant, and that its first round is reached. -/
def records : sProp 𝕄 :=
  iprop((bigSep Finset.univ fun ck : Dev nD × CK => cellInv ER (rd m) (K ck) (kcell ck))
    ∗ bigSep Finset.univ fun ck : Dev nD × CK => reached ER (kcell ck) 0)

instance records_persistent : BI.Persistent (records m K) := by unfold records; infer_instance

theorem inv_of (ck : Dev nD × CK) : records m K ⊢ cellInv ER (rd m) (K ck) (kcell ck) := by
  unfold records; iintro ⟨H, -⟩
  iapply (show (bigSep Finset.univ fun ck : Dev nD × CK => (cellInv ER (rd m) (K ck) (kcell ck) : sProp 𝕄)) ⊢ cellInv ER (rd m) (K ck) (kcell ck)
    from bigSep_elim (Finset.mem_univ ck)); iexact H
theorem reached_of (ck : Dev nD × CK) : records m K ⊢ reached ER (kcell ck) 0 := by
  unfold records; iintro ⟨-, H⟩
  iapply (show (bigSep Finset.univ fun ck : Dev nD × CK => (reached ER (kcell ck) 0 : sProp 𝕄)) ⊢ reached ER (kcell ck) 0
    from bigSep_elim (Finset.mem_univ ck)); iexact H

/-! ## The state -/

/-- `P` if `b` holds, `Q` otherwise. -/
def either (b : Bool) (P Q : sProp 𝕄) : sProp 𝕄 := match b with | true => P | false => Q

theorem either_true (P Q : sProp 𝕄) : either (F := F) true P Q = P := rfl
theorem either_false (P Q : sProp 𝕄) : either (F := F) false P Q = Q := rfl
theorem onlyIf_true (P : sProp 𝕄) : onlyIf (F := F) true P = P := rfl

/-- What `c` holds of its sending in the slot `s`: before it, under way, over. -/
def sndAt (c : Dev nD) (s : Slot) (ph : Fin 3) : sProp 𝕄 :=
  match ph with
  | 0 => iprop(slotAny (F := F) (sbM s.1) c s
      ∗ onlyIf (F := F) (active s c) iprop(slotAny (F := F) (rbM s.1) (tgt s.1 c) s ∗ dutyTok ER (sendCell c s) 0 false ∗ dutyTok ER (recvCell (tgt s.1 c) s) 0 false)
      ∗ atPos ER (sendCell c s) 0 ∅ 0)
  | 1 => iprop(either (F := F) (active s c) (cred (tallyAt (sendCell c s) () N)) (slotAny (F := F) (sbM s.1) c s) ∗ atPos ER (sendCell c s) 0 ∅ 0)
  | 2 => iprop(slotAny (F := F) (sbM s.1) c s ∗ atPos ER (sendCell c s) (cond (active s c) 1 0) ∅ 0)

/-- What `c` holds of the arrival in the slot `s`: awaited or not. -/
def rcvAt (c : Dev nD) (s : Slot) (b : Bool) : sProp 𝕄 :=
  match b with
  | false => iprop(either (F := F) (recvs s c) (cred (tallyAt (recvCell c s) () N)) (slotAny (F := F) (rbM s.1) c s) ∗ atPos ER (recvCell c s) 0 ∅ 0)
  | true => iprop(either (F := F) (recvs s c) (slotHolds (rbM s.1) c s (pay m s (src s.1 c))) (slotAny (F := F) (rbM s.1) c s)
      ∗ atPos ER (recvCell c s) (cond (recvs s c) 1 0) ∅ 0)

/-- The block of `x`, and the result with the pieces written so far. -/
def xPts (c : Dev nD) : sProp 𝕄 := (((c : Dev nD) : Thread nD τ).loc cc0_stg0_0) ↦{fullShare} (xstg m c)
def outPts (c : Dev nD) (b : Fin 4 → Bool) : sProp 𝕄 :=
  iprop(∃ f : Buf (Elt F) (((c : Dev nD) : Thread nD τ).loc cc0_stg1_0),
    ⌜∀ p, b p = true → (oM : Memref sig .tc .vmem S512x512 .f32).view.readAt (Elt F) (orect p).toLoadRect f = OUT m c p⌝
      ∗ ((((c : Dev nD) : Thread nD τ).loc cc0_stg1_0) ↦{fullShare} f))

/-- The state of device `c` at step `t` after the handshake. -/
def St (c : Dev nD) (t : ℕ) : sProp 𝕄 :=
  iprop(records m K ∗ levAts L lv
    ∗ (bigSep Finset.univ fun s : Slot => sndAt (F := F) c s (sph s t))
    ∗ (bigSep Finset.univ fun s : Slot => rcvAt m c s (rph s t))
    ∗ (∃ W, owes (c : Thread nD τ) (owed c t) W)
    ∗ xPts m c ∗ outPts m c (fun p => oph p t))

/-- One member of a family of resources taken out and put back at its next stage. -/
theorem step_at {I A : Type} [Fintype I] [DecidableEq I] (Φ : I → A → sProp 𝕄) (f g : I → A) (i : I) (h : ∀ i', i' ≠ i → g i' = f i') :
    (bigSep Finset.univ fun i => Φ i (f i)) ⊢ iprop(Φ i (f i) ∗ (Φ i (g i) -∗ bigSep Finset.univ fun i => Φ i (g i))) := by
  rw [bigSep_univ_at (fun i => Φ i (f i)) i, bigSep_univ_at (fun i => Φ i (g i)) i,
    bigSep_congr (s := Finset.univ.erase i) (Φ := fun i => Φ i (g i)) (Ψ := fun i => Φ i (f i)) fun i' hi' => by rw [h i' (Finset.ne_of_mem_erase hi')]]
  iintro ⟨H, Hr⟩
  isplitl [H]; · iexact H
  iintro H
  isplitl [H] <;> iassumption
theorem step_none {I A : Type} [Fintype I] (Φ : I → A → sProp 𝕄) (f g : I → A) (h : ∀ i', g i' = f i') :
    (bigSep Finset.univ fun i => Φ i (f i)) = (bigSep Finset.univ fun i => Φ i (g i)) :=
  bigSep_congr fun i _ => by rw [h i]

theorem snd_step (c : Dev nD) (s : Slot) {t t' : ℕ} (h : ∀ s', s' ≠ s → sph s' t' = sph s' t) :
    (bigSep Finset.univ fun s : Slot => sndAt (F := F) c s (sph s t))
      ⊢ iprop(sndAt (F := F) c s (sph s t) ∗ (sndAt (F := F) c s (sph s t') -∗ bigSep Finset.univ fun s : Slot => sndAt (F := F) c s (sph s t'))) :=
  step_at (fun s ph => sndAt (F := F) c s ph) (fun s => sph s t) (fun s => sph s t') s h
theorem snd_none (c : Dev nD) {t t' : ℕ} (h : ∀ s', sph s' t' = sph s' t) :
    (bigSep Finset.univ fun s : Slot => sndAt (F := F) c s (sph s t)) = bigSep Finset.univ fun s : Slot => sndAt (F := F) c s (sph s t') :=
  step_none (fun s ph => sndAt (F := F) c s ph) (fun s => sph s t) (fun s => sph s t') h
theorem rcv_step (c : Dev nD) (s : Slot) {t t' : ℕ} (h : ∀ s', s' ≠ s → rph s' t' = rph s' t) :
    (bigSep Finset.univ fun s : Slot => rcvAt m c s (rph s t))
      ⊢ iprop(rcvAt m c s (rph s t) ∗ (rcvAt m c s (rph s t') -∗ bigSep Finset.univ fun s : Slot => rcvAt m c s (rph s t'))) :=
  step_at (fun s b => rcvAt m c s b) (fun s => rph s t) (fun s => rph s t') s h
theorem rcv_none (c : Dev nD) {t t' : ℕ} (h : ∀ s', rph s' t' = rph s' t) :
    (bigSep Finset.univ fun s : Slot => rcvAt m c s (rph s t)) = bigSep Finset.univ fun s : Slot => rcvAt m c s (rph s t') :=
  step_none (fun s b => rcvAt m c s b) (fun s => rph s t) (fun s => rph s t') h
theorem out_none (c : Dev nD) {t : ℕ} (h : ∀ p, oph p (t + 1) = oph p t) :
    outPts m c (fun p => oph p t) = outPts m c (fun p => oph p (t + 1)) := by rw [funext h]

/-! ## Steps that touch only what is owed and the slot itself -/

/-- A device that does not send in the slot passes its sending step untouched. -/
theorem skip_send (c : Dev nD) (s : Slot) (h : active s c = false) : St m K c (Ts s) ⊢ St m K c (Ts s + 1) := by
  unfold St
  rw [owed_congr c (t := Ts s) (t' := Ts s + 1) fun s' ha => by
      rw [sph_Ts s s' fun e => by rw [e, h] at ha; exact absurd ha (by decide)],
    rcv_none m c (rph_Ts s), out_none m c (oph_Ts s)]
  iintro ⟨H1, H2, HS, HR⟩
  ihave HS' := (snd_step (F := F) c s (sph_Ts s)) $$ HS
  rw [(sph_Ts_self s).1, (sph_Ts_self s).2]
  icases HS' with ⟨Hs, Hback⟩
  isplitl [H1]; · iexact H1
  isplitl [H2]; · iexact H2
  isplitl [Hs Hback]
  · iapply Hback
    unfold sndAt; rw [h, either_false]
    icases Hs with ⟨Hb, -, Ha⟩
    isplitl [Hb]; · iexact Hb
    iexact Ha
  iexact HR

/-- A device that receives nothing in the slot passes the step of its arrival untouched. -/
theorem skip_recv (c : Dev nD) (s : Slot) (h : recvs s c = false) : St m K c (Tr s) ⊢ St m K c (Tr s + 1) := by
  unfold St
  rw [owed_congr c (t := Tr s) (t' := Tr s + 1) fun s' ha => by rw [sph_Tr s s'],
    snd_none (F := F) c (sph_Tr s), out_none m c (oph_Tr s)]
  iintro ⟨H1, H2, HS, HR, H3⟩
  ihave HR' := (rcv_step m c s (rph_Tr s)) $$ HR
  rw [(rph_Tr_self s).1, (rph_Tr_self s).2]
  icases HR' with ⟨Hs, Hback⟩
  isplitl [H1]; · iexact H1
  isplitl [H2]; · iexact H2
  isplitl [HS]; · iexact HS
  isplitl [Hs Hback]
  · iapply Hback
    unfold rcvAt; rw [h]
    iexact Hs
  iexact H3

/-- A device that did not send in the slot passes the step of its closing wait untouched. -/
theorem skip_done (c : Dev nD) (s : Slot) (h : active s c = false) : St m K c (Td s) ⊢ St m K c (Td s + 1) := by
  unfold St
  rw [owed_congr c (t := Td s) (t' := Td s + 1) fun s' ha => by
      rw [sph_Td s s' fun e => by rw [e, h] at ha; exact absurd ha (by decide)],
    rcv_none m c (rph_Td s), out_none m c (oph_Td s)]
  iintro ⟨H1, H2, HS, HR⟩
  ihave HS' := (snd_step (F := F) c s (sph_Td s)) $$ HS
  rw [(sph_Td_self s).1, (sph_Td_self s).2]
  icases HS' with ⟨Hs, Hback⟩
  isplitl [H1]; · iexact H1
  isplitl [H2]; · iexact H2
  isplitl [Hs Hback]
  · iapply Hback
    unfold sndAt; rw [h]
    iexact Hs
  iexact HR

end Cert.KernelIdeal.Chain

end
-- ==== Proof.KernelIdeal.Steps.lean ====
/-
The steps of a device's program: a block that sends a slot, one that awaits an arrival, one that writes a piece of the
result, one that awaits the end of a sending, each from the state before it to the state after it.
-/
module

public import proofs.«01_k».proof.Proof.KernelIdeal.State
public import Idealize.ShloMosaic.Lib.ViewIndex

@[expose] public section

noncomputable section

namespace Cert.KernelIdeal.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c`'s program `p` runs to a result and a state that `Q` describes. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A fact of every device holds of one. -/
theorem everywhere {P : Dev nD → Prop} (h : ∀ c, P c) (c : Dev nD) : P c := h c

variable (m : (ℓ : Loc nD τ sig) → Buf (Elt F) ℓ) (K : Dev nD × CK → ℕ)

/-! ## Slots and views -/

theorem slotPts_eq (M : Memref sig .tc .vmem S3x4x128x512 .bf16) (c : Dev nD) (s : Slot) (f : Buf (Elt F) (M.view.loc (c : Thread nD τ))) :
    (((slotM M s).view.loc (c : Thread nD τ)) ↦[(slotM M s).view.set]{fullShare} f : sProp 𝕄) = slotPts (F := F) M c s f := by
  unfold slotPts
  exact congrArg (fun S => (M.view.loc (c : Thread nD τ) ↦[S]{fullShare} f : sProp 𝕄)) (View.set_reshape _ _)

theorem slotM_pts (M : Memref sig .tc .vmem S3x4x128x512 .bf16) (c : Dev nD) (s : Slot) (f : Buf (Elt F) (M.view.loc (c : Thread nD τ))) :
    (((slotM M s).view.loc (c : Thread nD τ)) ↦[(slotM M s).view.set]{fullShare} f : sProp 𝕄)
      = ((M.access (srect s)).loc (c : Thread nD τ) ↦[(M.access (srect s)).set]{fullShare} f) := slotPts_eq M c s f

/-- What a transfer of a slot carries is what was laid in the slot. -/
theorem carried (M M' : Memref sig .tc .vmem S3x4x128x512 .bf16) (s : Slot) (fd : M.view.ty.Contents (Elt F)) (f : M'.view.ty.Contents (Elt F))
    (v : Vec F S1x1x128x512 .bf16) :
    M.view.readAt (Elt F) (srect s).toLoadRect
      ((slotM M s).view.write (Elt F) fd ((slotM M' s).view.read (Elt F) ((M'.access (srect s)).write (Elt F) f v Finset.univ)) Finset.univ) = v := by
  rw [View.readAt_rect]
  funext y
  have hy : ∃ x, Shape.reshapeEquiv squeezes_S1x1x128x512_S128x512.numel_eq x = y := ⟨_, Equiv.apply_symm_apply _ y⟩
  obtain ⟨x, rfl⟩ := hy
  refine (View.read_write_reshape (M.view.slice (srect s)) _ _ _ x).trans ?_
  exact congrFun (View.read_write_univ (v := M'.access (srect s)) f v) _

/-! ## Loads -/

section Loads
variable (c : Dev nD) {t : ℕ} {α : Type} {Q : α → sProp (MT nD τ sig Unit (Elt F) ℕ UU ℕ)}

/-- The state lends the block of `x`; -/
theorem lend_x : St m K c t ⊢ iprop(xPts m c ∗ (xPts m c -∗ St m K c t)) := by
  unfold St
  iintro ⟨H1, H2, H3, H4, H5, Hx, H6⟩
  isplitl [Hx]; · iexact Hx
  iintro Hx
  isplitl [H1]; · iexact H1
  isplitl [H2]; · iexact H2
  isplitl [H3]; · iexact H3
  isplitl [H4]; · iexact H4
  isplitl [H5]; · iexact H5
  isplitl [Hx] <;> iassumption
/-- an arrival slot once awaited, which holds what was sent if anything was; -/
theorem rcv_lend (s : Slot) : rcvAt m c s true
    ⊢ iprop(∃ f, ⌜recvs s c = true → (rbM s.1).view.readAt (Elt F) (srect s).toLoadRect f = pay m s (src s.1 c)⌝
      ∗ slotPts (F := F) (rbM s.1) c s f ∗ (slotPts (F := F) (rbM s.1) c s f -∗ rcvAt m c s true)) := by
  unfold rcvAt
  cases h : recvs s c with
  | true =>
    unfold either slotHolds
    iintro ⟨⟨%f, %hf, Hf⟩, Ha⟩
    iexists f
    isplitr; · ipureintro; exact fun _ => hf
    isplitl [Hf]; · iexact Hf
    iintro Hf
    isplitl [Hf]
    · iexists f; isplitr; · ipureintro; exact hf
      iexact Hf
    iexact Ha
  | false =>
    unfold either slotAny
    iintro ⟨⟨%f, Hf⟩, Ha⟩
    iexists f
    isplitr; · ipureintro; exact fun h' => absurd h' (by decide)
    isplitl [Hf]; · iexact Hf
    iintro Hf
    isplitl [Hf]; · iexists f; iexact Hf
    iexact Ha
theorem lend_rb (s : Slot) (ht : rph s t = true) :
    St m K c t ⊢ iprop(∃ f, ⌜recvs s c = true → (rbM s.1).view.readAt (Elt F) (srect s).toLoadRect f = pay m s (src s.1 c)⌝
      ∗ slotPts (F := F) (rbM s.1) c s f ∗ (slotPts (F := F) (rbM s.1) c s f -∗ St m K c t)) := by
  unfold St
  iintro ⟨H1, H2, H3, H4, H5⟩
  ihave H4' := (rcv_step m c s (t := t) (t' := t) fun _ _ => rfl) $$ H4
  rw [ht]
  icases H4' with ⟨Hs, Hback⟩
  ihave Hs' := (rcv_lend m c s) $$ Hs
  icases Hs' with ⟨%f, %hf, Hf, Hs⟩
  iexists f
  isplitr; · ipureintro; exact hf
  isplitl [Hf]; · iexact Hf
  iintro Hf
  isplitl [H1]; · iexact H1
  isplitl [H2]; · iexact H2
  isplitl [H3]; · iexact H3
  isplitl [Hf Hs Hback]
  · iapply Hback; iapply Hs; iexact Hf
  iexact H5
/-- and the result. -/
theorem lend_out : St m K c t ⊢ iprop(outPts m c (fun p => oph p t) ∗ (outPts m c (fun p => oph p t) -∗ St m K c t)) := by
  unfold St
  iintro ⟨H1, H2, H3, H4, H5, H6, Ho⟩
  isplitl [Ho]; · iexact Ho
  iintro Ho
  isplitl [H1]; · iexact H1
  isplitl [H2]; · iexact H2
  isplitl [H3]; · iexact H3
  isplitl [H4]; · iexact H4
  isplitl [H5]; · iexact H5
  isplitl [H6] <;> iassumption

/-- Loading a piece of a chunk of `x`. -/
theorem load_x (p j : Fin 4) {off : Fin 3 → ℕ} (hoff : off = xoff p j) {inb : ∀ a, off a + S1x128x512.size a ≤ S1x512x2048.size a}
    {hl} {k : Vec F S1x128x512 .bf16 → Prog (TpuEff nD τ sig (Elt F) Λ₀ .tc) α}
    (hk : St m K c t ⊢ run c (k (xc m c p j)) Q) :
    St m K c t ⊢ run c (do let v ← Prog.lift (.load xM (Rect.unit (s := S1x512x2048) off S1x128x512.size inb).toLoadRect hl); k v) Q := by
  subst hoff
  simp only [Prog.lift, Prog.bind_op, Prog.bind_ret]
  refine (lend_x m K c).trans ?_
  unfold xPts
  iintro ⟨Hx, Hb⟩
  iapply (wp_load 𝒱₀ (c : Thread nD τ) none Set.univ (m := xM) (Finset.subset_univ _)) $$ Hx
  iintro Hx
  iapply hk
  iapply Hb; iexact Hx

/-- Loading an arrival slot once awaited. -/
theorem load_rb (s : Slot) (ht : rph s t = true) {hl} {k : Vec F S1x1x128x512 .bf16 → Prog (TpuEff nD τ sig (Elt F) Λ₀ .tc) α}
    (hk : ∀ v, (recvs s c = true → v = pay m s (src s.1 c)) → St m K c t ⊢ run c (k v) Q) :
    St m K c t ⊢ run c (do let v ← Prog.lift (.load (rbM s.1) (srect s).toLoadRect hl); k v) Q := by
  simp only [Prog.lift, Prog.bind_op, Prog.bind_ret]
  refine (lend_rb m K c s ht).trans ?_
  iintro ⟨%f, %hf, Hf, Hb⟩
  unfold slotPts
  iapply (wp_load_rect 𝒱₀ (c : Thread nD τ) none Set.univ (m := rbM s.1) (r := srect s) (Finset.Subset.refl _)) $$ Hf
  iintro Hf
  iapply (hk _ hf)
  iapply Hb; iexact Hf

/-- Loading the result, to no purpose. -/
theorem load_out {r : Rect S512x512} {hl} {k : _ → Prog (TpuEff nD τ sig (Elt F) Λ₀ .tc) α} (hk : ∀ v, St m K c t ⊢ run c (k v) Q) :
    St m K c t ⊢ run c (do let v ← Prog.lift (.load oM r.toLoadRect hl); k v) Q := by
  simp only [Prog.lift, Prog.bind_op, Prog.bind_ret]
  refine (lend_out m K c).trans ?_
  unfold outPts
  iintro ⟨⟨%f, %hf, Hf⟩, Hb⟩
  iapply (wp_load 𝒱₀ (c : Thread nD τ) none Set.univ (m := oM) (Finset.subset_univ _)) $$ Hf
  iintro Hf
  iapply (hk _)
  iapply Hb
  iexists f; isplitr; · ipureintro; exact hf
  iexact Hf

end Loads

/-! ## Sending a slot -/

section Send
variable (c : Dev nD) {α : Type} {Q : α → sProp (MT nD τ sig Unit (Elt F) ℕ UU ℕ)}

/-- A device that sends in the slot: the payload laid in its slot, and the transfer. -/
theorem send_core (s : Slot) (ha : active s c = true) {v : Vec F S1x1x128x512 .bf16} (hv : v = pay m s c) {n : Dev nD} (hn : n = tgt s.1 c)
    {hl} {hst} {hm} {hsc : (slotM (rbM s.1) s).view.ref.isScScratch = false} {hsrc} {hdst}
    {hsem : DmaTarget.Typed .vmem (.dma (rS s)) (.remote (Dev.tc n : Thread nD τ) (slotM (rbM s.1) s) (.dma (sS s)) hsc)}
    {k : Prog (TpuEff nD τ sig (Elt F) Λ₀ .tc) α} (hk : St m K c (Ts s + 1) ⊢ run c k Q) :
    St m K c (Ts s) ⊢ run c (do
      let _ : Vec F S1x1x128x512 .bf16 ← Prog.lift (.load (sbM s.1) (srect s).toLoadRect hl)
      Prog.lift (.store (sbM s.1) (srect s) v Finset.univ hst hm)
      Prog.lift (.enqueueDma (slotM (sbM s.1) s) (.remote (Dev.tc n : Thread nD τ) (slotM (rbM s.1) s) (.dma (sS s)) hsc) (.dma (rS s)) hsrc hdst hsem)
      k) Q := by
  subst hn
  simp only [Prog.lift, Prog.bind_op, Prog.bind_ret]
  have hr : recvs s (tgt s.1 c) = true := (recvs_tgt s c).trans ha
  unfold St
  rw [owed_Ts c s ha, rcv_none m c (rph_Ts s), out_none m c (oph_Ts s)]
  iintro ⟨#Hrec, H2, HS, HR, ⟨%W, HO⟩, H3⟩
  ihave HS' := (snd_step (F := F) c s (sph_Ts s)) $$ HS
  rw [(sph_Ts_self s).1, (sph_Ts_self s).2]
  icases HS' with ⟨Hs, Hback⟩
  unfold sndAt
  rw [ha, onlyIf_true, either_true]
  unfold slotAny
  icases Hs with ⟨⟨%f, Hf⟩, ⟨⟨%fd, Hfd⟩, Ht1, Ht2⟩, Ha⟩
  unfold slotPts
  iapply (wp_load_rect 𝒱₀ (c : Thread nD τ) none Set.univ (m := sbM s.1) (r := srect s) (Finset.Subset.refl _)) $$ Hf
  iintro Hf
  iapply (wp_store 𝒱₀ (c : Thread nD τ) none Set.univ (m := sbM s.1) (r := srect s) (Mk := Finset.univ)
    (S := ((sbM s.1).access (srect s)).set) (subset_of_eq rfl)) $$ Hf
  iintro Hf
  ihave Hf' := (Entails.of_eq (slotM_pts (sbM s.1) c s _).symm) $$ Hf
  ihave Hfd' := (Entails.of_eq (slotM_pts (rbM s.1) (tgt s.1 c) s fd).symm) $$ Hfd
  iapply (Rounds.wp_send_pointsTo 𝒱₀ ER (rd m) (c : Thread nD τ) none (c' := (tgt s.1 c : Thread nD τ)) (src := slotM (sbM s.1) s) (dst := slotM (rbM s.1) s)
      (sS := .dma (sS s)) (sem := .dma (rS s))
      (fs := ((sbM s.1).access (srect s)).write (Elt F) f v Finset.univ) (κ₁ := K (c, some (true, s))) (κ₂ := K (tgt s.1 c, some (false, s)))
      (r₁ := 0) (r₂ := 0) (d₁ := false) (d₂ := false) (fd := fd)
      (by rw [duties_send m c s ha]; exact Finset.mem_singleton_self _) (by rw [duties_recv m _ s hr]; exact Finset.mem_singleton_self _)
      () () N (credit_rb s.1 s) (amount_send m c s false) (amount_recv m (tgt s.1 c) s false) (owed c (Ts s + 1)) rfl (W := W)
      (by rw [payload_send, slotPts_eq]; unfold slotAny; iintro H; iexists _; iexact H)
      (by
        rw [payload_recv, slotPts_eq]; unfold slotHolds; iintro H; iexists _
        isplitr; rotate_left; · iexact H
        ipureintro
        rw [src_tgt]; exact (carried (rbM s.1) (sbM s.1) s fd f v).trans hv)) $$ [Hf' Hfd' HO Ht1 Ht2]
  · isplitr; · iapply (inv_of m K (c, some (true, s))); iexact Hrec
    isplitr; · iapply (inv_of m K (tgt s.1 c, some (false, s))); iexact Hrec
    isplitl [Hf']; · iexact Hf'
    isplitl [Hfd']; · iexact Hfd'
    isplitl [HO]; · iexact HO
    isplitl [Ht1]; · iexact Ht1
    isplitr; · iapply (reached_of m K (c, some (true, s))); iexact Hrec
    isplitl [Ht2]; · iexact Ht2
    iapply (reached_of m K (tgt s.1 c, some (false, s))); iexact Hrec
  iintro ⟨Hc, HO⟩
  iapply hk
  unfold St
  isplitr; · iexact Hrec
  isplitl [H2]; · iexact H2
  isplitl [Hback Hc Ha]
  · iapply Hback
    isplitl [Hc] <;> iassumption
  isplitl [HR]; · iexact HR
  isplitl [HO]; · iexists W; iexact HO
  iexact H3

/-- The block of the first round: if the device sends in the slot, the piece of its chunk loaded, laid in the slot and sent. -/
theorem send_first (d : Bool) (p : Fin 4) {t : ℕ} (ht : t = Ts (d, 0, p)) {cond : BitVec 1}
    (hcond : cond = 1#1 ↔ active (d, 0, p) c = true) {off : Fin 3 → ℕ} (hoff : active (d, 0, p) c = true → off = xoff p (chunk d 0 c)) {n : ℕ}
    (hn : active (d, 0, p) c = true → n = (tgt d c).val) {P : Vec F S1x128x512 .bf16 → FVec F S1x1x128x512 .bf16}
    (hP : ∀ x, P x = k0_pay1 x) {inb : cond = 1#1 → ∀ a, off a + S1x128x512.size a ≤ S1x512x2048.size a}
    {hlt : cond = 1#1 → n < nD} {hl₁ : ∀ h : cond = 1#1, xM.view.LoadsAt (Rect.unit (s := S1x512x2048) off S1x128x512.size (inb h)).toLoadRect}
    {hsc : cond = 1#1 → (slotM (rbM d) (d, 0, p)).view.ref.isScScratch = false}
    {hsem : ∀ h : cond = 1#1, DmaTarget.Typed .vmem (.dma (rS (d, 0, p))) (.remote (Dev.tc (⟨n, hlt h⟩ : Dev nD) : Thread nD τ) (slotM (rbM d) (d, 0, p)) (.dma (sS (d, 0, p))) (hsc h))}
    {hdst : (slotM (rbM d) (d, 0, p)).view.WordExact}
    {hl hst hm hsrc}
    {k : Prog (TpuEff nD τ sig (Elt F) Λ₀ .tc) α} (hk : St m K c (t + 1) ⊢ run c k Q) :
    St m K c t ⊢ run c (if h : cond = 1#1 then do
      let x : Vec F S1x128x512 .bf16 ← Prog.lift (.load xM (Rect.unit (s := S1x512x2048) off S1x128x512.size (inb h)).toLoadRect (hl₁ h))
      let _ : Vec F S1x1x128x512 .bf16 ← Prog.lift (.load (sbM d) (srect (d, 0, p)).toLoadRect hl)
      Prog.lift (.store (sbM d) (srect (d, 0, p)) (P x) Finset.univ hst hm)
      Prog.lift (.enqueueDma (slotM (sbM d) (d, 0, p)) (.remote (Dev.tc (⟨n, hlt h⟩ : Dev nD) : Thread nD τ) (slotM (rbM d) (d, 0, p)) (.dma (sS (d, 0, p))) (hsc h))
        (.dma (rS (d, 0, p))) hsrc hdst (hsem h))
      k
     else k) Q := by
  subst ht
  split
  · rename_i h
    have ha := hcond.mp h
    exact load_x m K c p (chunk d 0 c) (hoff ha) (send_core m K c (d, 0, p) ha (hP _) (Fin.ext (hn ha)) hk)
  · rename_i h
    exact (skip_send m K c (d, 0, p) (by rwa [hcond, Bool.not_eq_true] at h)).trans hk

/-- A payload of a later round is the chunk's piece added to what was sent to the device in the round before. -/
theorem pay_next (d : Bool) (p : Fin 4) (r : Fin 2) (ha : active (d, r.succ, p) c = true) (v : Vec F S1x1x128x512 .bf16)
    (hv : recvs (d, r.castSucc, p) c = true → v = pay m (d, r.castSucc, p) (src d c)) :
    addPay d c (xc m c p (chunk d r.succ c)) v = pay m (d, r.succ, p) c := by
  refine (addPay_congr d c _ v (if hasSrc d c then PR m d r.val p (src d c) else nothing) fun hs => ?_).trans ?_
  · rw [if_pos hs]; exact hv (recvs_before d p r c ha hs)
  · have e : Fin.ofNat 3 (r.val + 1) = r.succ := (by decide : ∀ r : Fin 2, Fin.ofNat 3 (r.val + 1) = r.succ) r
    show _ = addPay d c (xc m c p (chunk d (Fin.ofNat 3 (r.val + 1)) c)) _
    rw [e]

/-- The block of a later round: the same, with what arrived in the round before added. -/
theorem send_next (d : Bool) (p : Fin 4) (r : Fin 2) {t : ℕ} (ht : t = Ts (d, r.succ, p)) {cond : BitVec 1}
    (hcond : cond = 1#1 ↔ active (d, r.succ, p) c = true) {off : Fin 3 → ℕ} (hoff : active (d, r.succ, p) c = true → off = xoff p (chunk d r.succ c)) {n : ℕ}
    (hn : active (d, r.succ, p) c = true → n = (tgt d c).val) {P : Vec F S1x128x512 .bf16 → Vec F S1x1x128x512 .bf16 → FVec F S1x1x128x512 .bf16}
    (hP : ∀ x v, P x v = addPay d c x v) {inb : cond = 1#1 → ∀ a, off a + S1x128x512.size a ≤ S1x512x2048.size a}
    {hlt : cond = 1#1 → n < nD} {hl₁ : ∀ h : cond = 1#1, xM.view.LoadsAt (Rect.unit (s := S1x512x2048) off S1x128x512.size (inb h)).toLoadRect}
    {hsc : cond = 1#1 → (slotM (rbM d) (d, r.succ, p)).view.ref.isScScratch = false}
    {hsem : ∀ h : cond = 1#1, DmaTarget.Typed .vmem (.dma (rS (d, r.succ, p))) (.remote (Dev.tc (⟨n, hlt h⟩ : Dev nD) : Thread nD τ) (slotM (rbM d) (d, r.succ, p)) (.dma (sS (d, r.succ, p))) (hsc h))}
    {hdst : (slotM (rbM d) (d, r.succ, p)).view.WordExact}
    {hl₂ hl hst hm hsrc}
    {k : Prog (TpuEff nD τ sig (Elt F) Λ₀ .tc) α} (hk : St m K c (t + 1) ⊢ run c k Q) :
    St m K c t ⊢ run c (if h : cond = 1#1 then do
      let x : Vec F S1x128x512 .bf16 ← Prog.lift (.load xM (Rect.unit (s := S1x512x2048) off S1x128x512.size (inb h)).toLoadRect (hl₁ h))
      let v : Vec F S1x1x128x512 .bf16 ← Prog.lift (.load (rbM d) (srect (d, r.castSucc, p)).toLoadRect hl₂)
      let _ : Vec F S1x1x128x512 .bf16 ← Prog.lift (.load (sbM d) (srect (d, r.succ, p)).toLoadRect hl)
      Prog.lift (.store (sbM d) (srect (d, r.succ, p)) (P x v) Finset.univ hst hm)
      Prog.lift (.enqueueDma (slotM (sbM d) (d, r.succ, p)) (.remote (Dev.tc (⟨n, hlt h⟩ : Dev nD) : Thread nD τ) (slotM (rbM d) (d, r.succ, p)) (.dma (sS (d, r.succ, p))) (hsc h))
        (.dma (rS (d, r.succ, p))) hsrc hdst (hsem h))
      k
     else k) Q := by
  subst ht
  split
  · rename_i h
    have ha := hcond.mp h
    exact load_x m K c p (chunk d r.succ c) (hoff ha) (load_rb m K c (d, r.castSucc, p) (rph_before d p r) fun v hv =>
      send_core m K c (d, r.succ, p) ha ((hP _ v).trans (pay_next m c d p r ha v hv)) (Fin.ext (hn ha)) hk)
  · rename_i h
    exact (skip_send m K c (d, r.succ, p) (by rwa [hcond, Bool.not_eq_true] at h)).trans hk

end Send

/-! ## Awaiting an arrival, and the end of a sending -/

section Wait
variable (c : Dev nD) {α : Type} {Q : α → sProp (MT nD τ sig Unit (Elt F) ℕ UU ℕ)}

/-- A device that receives in the slot: its arrival awaited. -/
theorem arrival_core (s : Slot) (hr : recvs s c = true) {hsrc hdst} {k : Prog (TpuEff nD τ sig (Elt F) Λ₀ .tc) α} (hk : St m K c (Tr s + 1) ⊢ run c k Q) :
    St m K c (Tr s) ⊢ run c (do
      Prog.lift (.waitDma2 (rS s) (slotM (sbM s.1) s) (slotM (rbM s.1) s) hsrc hdst)
      k) Q := by
  simp only [Prog.lift, Prog.bind_op, Prog.bind_ret]
  unfold St
  rw [← owed_congr c (t := Tr s) (t' := Tr s + 1) fun s' ha => by rw [sph_Tr s s'], snd_none (F := F) c (sph_Tr s), out_none m c (oph_Tr s)]
  iintro ⟨#Hrec, #Hlev, HS, HR, ⟨%W, HO⟩, H3⟩
  ihave HR' := (rcv_step m c s (rph_Tr s)) $$ HR
  rw [(rph_Tr_self s).1, (rph_Tr_self s).2]
  icases HR' with ⟨Hs, Hback⟩
  unfold rcvAt
  rw [hr, either_true, either_true]
  icases Hs with ⟨Hc, Ha⟩
  iapply (Rounds.wp_wait_rest_token 𝒱₀ ER (rd m) (c : Thread nD τ) none (κ := K (c, some (false, s)))
      (wpE_waitDma2_eq 𝒱₀ (c : Thread nD τ) none Set.univ) (Set.mem_univ _) () (O := owed c (Tr s + 1)) (W := W) (R := 0) (m := 0) (T := ∅)
      (by rw [expect_recv m c s hr, Nat.zero_add]; exact credit_rb s.1 s)) $$ [Hc HO Ha]
  · isplitr; · iapply (inv_of m K (c, some (false, s))); iexact Hrec
    isplitl [Hc]; · rw [credit_rb]; iexact Hc
    isplitl [HO]; · iexact HO
    isplitr; · iapply (mayWait_owed c (.dma (rS s)) (Tr s + 1) fun s' h => by
        have hs := Ts_lt_of_pending s s' (by rw [← sph_Tr s s']; exact h)
        show lv (recvCell c s) () < _
        rw [lv_recv]; omega); iexact Hlev
    iexact Ha
  iintro ⟨HO, Ha, -, Hpay⟩
  ihave Hp := (Entails.of_eq (rest_recv m c s hr)) $$ Hpay
  iapply hk
  unfold St
  isplitr; · iexact Hrec
  isplitr; · iexact Hlev
  isplitl [HS]; · iexact HS
  isplitl [Hback Hp Ha]
  · iapply Hback
    isplitl [Hp]; · iexact Hp
    iexact Ha
  isplitl [HO]; · iexists _; iexact HO
  iexact H3

/-- The block that awaits the arrival in the slot, if anything is sent there. -/
theorem await_arrival (s : Slot) {t : ℕ} (ht : t = Tr s) {cond : BitVec 1} (hcond : cond = 1#1 ↔ recvs s c = true) {hsrc hdst}
    {k : Prog (TpuEff nD τ sig (Elt F) Λ₀ .tc) α} (hk : St m K c (t + 1) ⊢ run c k Q) :
    St m K c t ⊢ run c (if h : cond = 1#1 then do
      Prog.lift (.waitDma2 (rS s) (slotM (sbM s.1) s) (slotM (rbM s.1) s) hsrc hdst)
      k
     else k) Q := by
  subst ht
  split
  · rename_i h; exact arrival_core m K c s (hcond.mp h) hk
  · rename_i h; exact (skip_recv m K c s (by rwa [hcond, Bool.not_eq_true] at h)).trans hk

/-- Once the closing waits have begun, nothing is left to send. -/
theorem not_pending_done (s s' : Slot) : sph s' (Td s + 1) ≠ 0 := by
  by_cases h : s' = s
  · subst h; rw [(sph_Td_self s').2]; decide
  · rw [sph_Td s s' h]; exact not_pending_Td s s'
theorem not_pending_owed (s s' : Slot) : sph s' (Td s + 1) = 0 ↔ sph s' (Td s) = 0 :=
  ⟨fun h => absurd h (not_pending_done s s'), fun h => absurd h (not_pending_Td s s')⟩

/-- A device that sent in the slot: the end of its sending awaited. -/
theorem done_core (s : Slot) (ha : active s c = true) {hsrc hdst} {k : Prog (TpuEff nD τ sig (Elt F) Λ₀ .tc) α} (hk : St m K c (Td s + 1) ⊢ run c k Q) :
    St m K c (Td s) ⊢ run c (do
      Prog.lift (.waitDma2 (sS s) (slotM (rbM s.1) s) (slotM (sbM s.1) s) hsrc hdst)
      k) Q := by
  simp only [Prog.lift, Prog.bind_op, Prog.bind_ret]
  unfold St
  rw [← owed_congr c (t := Td s) (t' := Td s + 1) fun s' ha => not_pending_owed s s', rcv_none m c (rph_Td s), out_none m c (oph_Td s)]
  iintro ⟨#Hrec, #Hlev, HS, HR, ⟨%W, HO⟩, H3⟩
  ihave HS' := (snd_step (F := F) c s (sph_Td s)) $$ HS
  rw [(sph_Td_self s).1, (sph_Td_self s).2]
  icases HS' with ⟨Hs, Hback⟩
  unfold sndAt
  rw [ha, either_true]
  icases Hs with ⟨Hc, Ha⟩
  iapply (Rounds.wp_wait_rest_token 𝒱₀ ER (rd m) (c : Thread nD τ) none (κ := K (c, some (true, s)))
      (wpE_waitDma2_eq 𝒱₀ (c : Thread nD τ) none Set.univ) (Set.mem_univ _) () (O := owed c (Td s + 1)) (W := W) (R := 0) (m := 0) (T := ∅)
      (by rw [expect_send m c s ha, Nat.zero_add]; exact credit_sb s.1 s)) $$ [Hc HO Ha]
  · isplitr; · iapply (inv_of m K (c, some (true, s))); iexact Hrec
    isplitl [Hc]; · rw [credit_sb]; iexact Hc
    isplitl [HO]; · iexact HO
    isplitr; · iapply (mayWait_owed c (.dma (sS s)) (Td s + 1) fun s' h => absurd h (not_pending_done s s')); iexact Hlev
    iexact Ha
  iintro ⟨HO, Ha, -, Hpay⟩
  ihave Hp := (Entails.of_eq (rest_send m c s ha)) $$ Hpay
  iapply hk
  unfold St
  isplitr; · iexact Hrec
  isplitr; · iexact Hlev
  isplitl [Hback Hp Ha]
  · iapply Hback
    isplitl [Hp]; · iexact Hp
    iexact Ha
  isplitl [HR]; · iexact HR
  isplitl [HO]; · iexists _; iexact HO
  iexact H3

/-- The block that awaits the end of the sending in the slot, if the device sends there. -/
theorem await_done (s : Slot) {t : ℕ} (ht : t = Td s) {cond : BitVec 1} (hcond : cond = 1#1 ↔ active s c = true) {hsrc hdst}
    {k : Prog (TpuEff nD τ sig (Elt F) Λ₀ .tc) α} (hk : St m K c (t + 1) ⊢ run c k Q) :
    St m K c t ⊢ run c (if h : cond = 1#1 then do
      Prog.lift (.waitDma2 (sS s) (slotM (rbM s.1) s) (slotM (sbM s.1) s) hsrc hdst)
      k
     else k) Q := by
  subst ht
  split
  · rename_i h; exact done_core m K c s (hcond.mp h) hk
  · rename_i h; exact (skip_done m K c s (by rwa [hcond, Bool.not_eq_true] at h)).trans hk

end Wait

/-! ## Writing a piece of the result -/

section Out
variable (c : Dev nD) {α : Type} {Q : α → sProp (MT nD τ sig Unit (Elt F) ℕ UU ℕ)}

/-- A piece written is read back, and the pieces written before it are untouched. -/
theorem out_write (p : Fin 4) (f : (oM : Memref sig .tc .vmem S512x512 .f32).view.ty.Contents (Elt F)) (v : FVec F S128x512 .f32) (b b' : Fin 4 → Bool)
    (hb : ∀ q, q ≠ p → b' q = b q) (hv : v = OUT m c p)
    (hf : ∀ q, b q = true → (oM : Memref sig .tc .vmem S512x512 .f32).view.readAt (Elt F) (orect q).toLoadRect f = OUT m c q) :
    ∀ q, b' q = true → (oM : Memref sig .tc .vmem S512x512 .f32).view.readAt (Elt F) (orect q).toLoadRect ((oM.access (orect p)).write (Elt F) f v Finset.univ) = OUT m c q := by
  intro q hq
  by_cases h : q = p
  · subst h
    rw [View.readAt_rect]
    exact (View.read_write_univ (v := oM.access (orect q)) f v).trans hv
  · rw [View.readAt_rect]
    refine (View.read_slice_write_slice_of_disjoint (v := (oM : Memref sig .tc .vmem S512x512 .f32).view) (orect q) (orect p) f v Finset.univ ?_).trans ?_
    · refine View.disjoint_slice (Rect.unit_disjoint (0 : Fin 2) ?_)
      have hne : q.val ≠ p.val := fun e => h (Fin.ext e)
      show 128 * q.val + 128 ≤ 128 * p.val ∨ 128 * p.val + 128 ≤ 128 * q.val
      omega
    · exact hf q (by rw [← hb q h]; exact hq)

/-- The store of a piece of the result. -/
theorem store_out (p : Fin 4) {t : ℕ} (ht : t = To p) {v : FVec F S128x512 .f32} (hv : v = OUT m c p) {hst hm}
    {k : Prog (TpuEff nD τ sig (Elt F) Λ₀ .tc) α} (hk : St m K c (t + 1) ⊢ run c k Q) :
    St m K c t ⊢ run c (do
      Prog.lift (.store oM (orect p) v Finset.univ hst hm)
      k) Q := by
  subst ht
  simp only [Prog.lift, Prog.bind_op, Prog.bind_ret]
  unfold St
  rw [snd_none (F := F) c (sph_To p), rcv_none m c (rph_To p), ← owed_congr c (t := To p) (t' := To p + 1) fun s' _ => by rw [sph_To p s']]
  iintro ⟨H1, H2, H3, H4, H5, H6, Ho⟩
  unfold outPts
  icases Ho with ⟨%f, %hf, Hf⟩
  iapply (wp_store 𝒱₀ (c : Thread nD τ) none Set.univ (m := oM) (r := orect p) (Mk := Finset.univ) (Finset.subset_univ _)) $$ Hf
  iintro Hf
  iapply hk
  unfold St outPts
  isplitl [H1]; · iexact H1
  isplitl [H2]; · iexact H2
  isplitl [H3]; · iexact H3
  isplitl [H4]; · iexact H4
  isplitl [H5]; · iexact H5
  isplitl [H6]; · iexact H6
  iexists _
  isplitr; rotate_left; · iexact Hf
  ipureintro
  exact out_write m c p f v _ _ (oph_To p) hv hf

/-- A piece of the result from the chunk's piece and the last arrivals. -/
theorem out_eq (p : Fin 4) {v w : Vec F S1x1x128x512 .bf16} (hv : recvs (true, 2, p) c = true → v = pay m (true, 2, p) (src true c))
    (hw : recvs (false, 2, p) c = true → w = pay m (false, 2, p) (src false c)) :
    k0_pay25 (zw c) (xc m c p (zF c)) v w = OUT m c p :=
  out_congr c _ _ _ _ _ (fun h => (hv (recvs_last true p c h)).trans (if_pos h).symm) (fun h => (hw (recvs_last false p c h)).trans (if_pos h).symm)

end Out

end Cert.KernelIdeal.Chain

end
-- ==== Proof.KernelIdeal.Parts.lean ====
/-
The parts of a device's program, each from the state before it to the state after it.
-/
module

public import proofs.«01_k».proof.Proof.KernelIdeal.Steps

@[expose] public section

noncomputable section

namespace Cert.KernelIdeal.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- A program that only hands back a value. -/
theorem run_pure {α : Type} {P : sProp (MT nD τ sig Unit (Elt F) ℕ UU ℕ)} {a : α} {Q : α → sProp (MT nD τ sig Unit (Elt F) ℕ UU ℕ)}
    (h : P ⊢ Q a) : P ⊢ run c (pure a) Q := by
  refine h.trans ?_
  show Q a ⊢ run c (Prog.ret a) Q
  unfold run; rw [wp_ret]
  iintro H; imodintro; iexact H

set_option maxRecDepth 65536 in
set_option maxHeartbeats 2000000 in
/-- The sends of the first round, and the first arrival awaited. -/
theorem part2 {v2 v5 v10 v12 v29 : BitVec 32} {v26 v27 : BitVec 1} {Kt : (Σ' (v49 : BitVec 1) (v50 : BitVec 1) (v52 : BitVec 32) (v55 : BitVec 32), BitVec 32) → sProp (MT nD τ sig Unit (Elt F) ℕ UU ℕ)}
    (h : ∀ v52 v55, St m K c 9 ⊢ Kt ⟨(Scalar.cmpi .sle (zw c) 1#32), (Scalar.cmpi .sge (zw c) 2#32), v52, v55, Scalar.extui (Scalar.cmpi .sle (zw c) 1#32)⟩) :
    St m K c 0 ⊢ run c (k0_part2 (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7
      c v2 v5 (zw c) v10 v12 v26 v27 v29) Kt := by
  rw [k0_part2_eq_skeleton]; unfold k0_part2_skel
  refine send_first m K c true 0 rfl ?_ ?_ ?_ (fun _ => rfl) ?_
  iterate 3 (clear h; revert c; decide +kernel)
  refine send_first m K c false 0 rfl ?_ ?_ ?_ (fun _ => rfl) ?_
  iterate 3 (clear h; revert c; decide +kernel)
  refine send_first m K c true 1 rfl ?_ ?_ ?_ (fun _ => rfl) ?_
  iterate 3 (clear h; revert c; decide +kernel)
  refine send_first m K c false 1 rfl ?_ ?_ ?_ (fun _ => rfl) ?_
  iterate 3 (clear h; revert c; decide +kernel)
  refine send_first m K c true 2 rfl ?_ ?_ ?_ (fun _ => rfl) ?_
  iterate 3 (clear h; revert c; decide +kernel)
  refine send_first m K c false 2 rfl ?_ ?_ ?_ (fun _ => rfl) ?_
  iterate 3 (clear h; revert c; decide +kernel)
  refine send_first m K c true 3 rfl ?_ ?_ ?_ (fun _ => rfl) ?_
  iterate 3 (clear h; revert c; decide +kernel)
  refine send_first m K c false 3 rfl ?_ ?_ ?_ (fun _ => rfl) ?_
  iterate 3 (clear h; revert c; decide +kernel)
  refine await_arrival m K c (true, 0, 0) rfl ?_ ?_
  · clear h; revert c; decide +kernel
  exact run_pure c (h _ _)

set_option maxRecDepth 65536 in
set_option maxHeartbeats 2000000 in
/-- The sends of the second round up to the third piece. -/
theorem part3 {v2 v5 v10 v12 v52 v55 : BitVec 32} {Kt : BitVec 1 → sProp (MT nD τ sig Unit (Elt F) ℕ UU ℕ)}
    (h : St m K c 20 ⊢ Kt (Scalar.cmpi .sge (zw c) 1#32)) :
    St m K c 9 ⊢ run c (k0_part3 (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7
      c v2 v5 (zw c) v10 v12 (Scalar.cmpi .sle (zw c) 1#32) (Scalar.cmpi .sge (zw c) 2#32) v52 v55 (Scalar.extui (Scalar.cmpi .sle (zw c) 1#32))) Kt := by
  rw [k0_part3_eq_skeleton]; unfold k0_part3_skel
  refine send_next m K c true 0 0 rfl ?_ ?_ ?_ (fun _ _ => rfl) ?_
  iterate 3 (clear h; revert c; decide +kernel)
  refine await_arrival m K c (false, 0, 0) rfl ?_ ?_
  · clear h; revert c; decide +kernel
  refine send_next m K c false 0 0 rfl ?_ ?_ ?_ (fun _ _ => rfl) ?_
  iterate 3 (clear h; revert c; decide +kernel)
  refine await_arrival m K c (true, 0, 1) rfl ?_ ?_
  · clear h; revert c; decide +kernel
  refine send_next m K c true 1 0 rfl ?_ ?_ ?_ (fun _ _ => rfl) ?_
  iterate 3 (clear h; revert c; decide +kernel)
  refine await_arrival m K c (false, 0, 1) rfl ?_ ?_
  · clear h; revert c; decide +kernel
  refine send_next m K c false 1 0 rfl ?_ ?_ ?_ (fun _ _ => rfl) ?_
  iterate 3 (clear h; revert c; decide +kernel)
  refine await_arrival m K c (true, 0, 2) rfl ?_ ?_
  · clear h; revert c; decide +kernel
  refine send_next m K c true 2 0 rfl ?_ ?_ ?_ (fun _ _ => rfl) ?_
  iterate 3 (clear h; revert c; decide +kernel)
  refine await_arrival m K c (false, 0, 2) rfl ?_ ?_
  · clear h; revert c; decide +kernel
  refine send_next m K c false 2 0 rfl ?_ ?_ ?_ (fun _ _ => rfl) ?_
  iterate 3 (clear h; revert c; decide +kernel)
  exact run_pure c h

set_option maxRecDepth 65536 in
set_option maxHeartbeats 2000000 in
/-- The end of the second round and the first piece of the third. -/
theorem part4 {v2 v5 v10 v12 v52 v55 : BitVec 32} {Kt : (Σ' (v104 : BitVec 1) (v105 : BitVec 1) (v107 : BitVec 32) (v110 : BitVec 32), BitVec 32) → sProp (MT nD τ sig Unit (Elt F) ℕ UU ℕ)}
    (h : ∀ v107 v110, St m K c 28 ⊢ Kt ⟨(Scalar.cmpi .sle (zw c) 2#32), (Scalar.cmpi .sge (zw c) 1#32), v107, v110, Scalar.extui (Scalar.andi (Scalar.cmpi .sle (zw c) 2#32) (Scalar.cmpi .sge (zw c) 1#32))⟩) :
    St m K c 20 ⊢ run c (k0_part4 (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7
      c v2 v5 (zw c) v10 v12 (Scalar.cmpi .sle (zw c) 1#32) (Scalar.cmpi .sge (zw c) 2#32) v52 v55 (Scalar.cmpi .sge (zw c) 1#32)) Kt := by
  rw [k0_part4_eq_skeleton]; unfold k0_part4_skel
  refine await_arrival m K c (true, 0, 3) rfl ?_ ?_
  · clear h; revert c; decide +kernel
  refine send_next m K c true 3 0 rfl ?_ ?_ ?_ (fun _ _ => rfl) ?_
  iterate 3 (clear h; revert c; decide +kernel)
  refine await_arrival m K c (false, 0, 3) rfl ?_ ?_
  · clear h; revert c; decide +kernel
  refine send_next m K c false 3 0 rfl ?_ ?_ ?_ (fun _ _ => rfl) ?_
  iterate 3 (clear h; revert c; decide +kernel)
  refine await_arrival m K c (true, 1, 0) rfl ?_ ?_
  · clear h; revert c; decide +kernel
  refine send_next m K c true 0 1 rfl ?_ ?_ ?_ (fun _ _ => rfl) ?_
  iterate 3 (clear h; revert c; decide +kernel)
  refine await_arrival m K c (false, 1, 0) rfl ?_ ?_
  · clear h; revert c; decide +kernel
  refine send_next m K c false 0 1 rfl ?_ ?_ ?_ (fun _ _ => rfl) ?_
  iterate 3 (clear h; revert c; decide +kernel)
  exact run_pure c (h _ _)

set_option maxRecDepth 65536 in
set_option maxHeartbeats 2000000 in
/-- The sends of the third round. -/
theorem part5 {v2 v5 v10 v12 v107 v110 : BitVec 32} {Kt : (Σ' (v157 : BitVec 32), BitVec 32) → sProp (MT nD τ sig Unit (Elt F) ℕ UU ℕ)}
    (h : St m K c 39 ⊢ Kt ⟨Scalar.extui (Scalar.cmpi .sge (zw c) 1#32), 0#32⟩) :
    St m K c 28 ⊢ run c (k0_part5 (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7
      c v2 v5 (zw c) v10 v12 (Scalar.cmpi .sle (zw c) 2#32) (Scalar.cmpi .sge (zw c) 1#32) v107 v110 (Scalar.extui (Scalar.andi (Scalar.cmpi .sle (zw c) 2#32) (Scalar.cmpi .sge (zw c) 1#32)))) Kt := by
  rw [k0_part5_eq_skeleton]; unfold k0_part5_skel
  refine await_arrival m K c (true, 1, 1) rfl ?_ ?_
  · clear h; revert c; decide +kernel
  refine send_next m K c true 1 1 rfl ?_ ?_ ?_ (fun _ _ => rfl) ?_
  iterate 3 (clear h; revert c; decide +kernel)
  refine await_arrival m K c (false, 1, 1) rfl ?_ ?_
  · clear h; revert c; decide +kernel
  refine send_next m K c false 1 1 rfl ?_ ?_ ?_ (fun _ _ => rfl) ?_
  iterate 3 (clear h; revert c; decide +kernel)
  refine await_arrival m K c (true, 1, 2) rfl ?_ ?_
  · clear h; revert c; decide +kernel
  refine send_next m K c true 2 1 rfl ?_ ?_ ?_ (fun _ _ => rfl) ?_
  iterate 3 (clear h; revert c; decide +kernel)
  refine await_arrival m K c (false, 1, 2) rfl ?_ ?_
  · clear h; revert c; decide +kernel
  refine send_next m K c false 2 1 rfl ?_ ?_ ?_ (fun _ _ => rfl) ?_
  iterate 3 (clear h; revert c; decide +kernel)
  refine await_arrival m K c (true, 1, 3) rfl ?_ ?_
  · clear h; revert c; decide +kernel
  refine send_next m K c true 3 1 rfl ?_ ?_ ?_ (fun _ _ => rfl) ?_
  iterate 3 (clear h; revert c; decide +kernel)
  refine await_arrival m K c (false, 1, 3) rfl ?_ ?_
  · clear h; revert c; decide +kernel
  exact run_pure c h

set_option maxRecDepth 65536 in
set_option maxHeartbeats 2000000 in
/-- The last send, and the first piece of the result. -/
theorem part6 {v2 v5 v10 v12 v110 : BitVec 32} {Kt : BitVec 1 → sProp (MT nD τ sig Unit (Elt F) ℕ UU ℕ)}
    (h : St m K c 44 ⊢ Kt (Scalar.cmpi .sle (zw c) 2#32)) :
    St m K c 39 ⊢ run c (k0_part6 (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7
      c v2 v5 (zw c) v10 v12 v110 (Scalar.extui (Scalar.cmpi .sge (zw c) 1#32)) 0#32) Kt := by
  rw [k0_part6_eq_skeleton]; unfold k0_part6_skel
  refine send_next m K c false 3 1 rfl ?_ ?_ ?_ (fun _ _ => rfl) ?_
  iterate 3 (clear h; revert c; decide +kernel)
  refine await_arrival m K c (true, 2, 0) rfl ?_ ?_
  · clear h; revert c; decide +kernel
  refine await_arrival m K c (false, 2, 0) rfl ?_ ?_
  · clear h; revert c; decide +kernel
  refine load_x m K c 0 (zF c) ?_ ?_
  · clear h; revert c; decide +kernel
  refine load_rb m K c (true, 2, 0) rfl fun v hv => ?_
  refine load_rb m K c (false, 2, 0) rfl fun w hw => ?_
  refine load_out m K c fun _ => ?_
  refine store_out m K c 0 rfl (out_eq m c 0 hv hw) ?_
  refine await_arrival m K c (true, 2, 1) rfl ?_ ?_
  · clear h hv hw; revert c; decide +kernel
  exact run_pure c h

set_option maxRecDepth 65536 in
set_option maxHeartbeats 2000000 in
/-- The second piece of the result, and the load of the third. -/
theorem part7 {v2 v5 v10 v12 : BitVec 32} {Kt : Vec F S1x128x512 .bf16 → sProp (MT nD τ sig Unit (Elt F) ℕ UU ℕ)}
    (h : St m K c 48 ⊢ Kt (xc m c 2 (zF c))) :
    St m K c 44 ⊢ run c (k0_part7 (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7
      c v2 v5 (zw c) v10 v12 (Scalar.cmpi .sle (zw c) 2#32)) Kt := by
  rw [k0_part7_eq_skeleton]; unfold k0_part7_skel
  refine await_arrival m K c (false, 2, 1) rfl ?_ ?_
  · clear h; revert c; decide +kernel
  refine load_x m K c 1 (zF c) ?_ ?_
  · clear h; revert c; decide +kernel
  refine load_rb m K c (true, 2, 1) rfl fun v hv => ?_
  refine load_rb m K c (false, 2, 1) rfl fun w hw => ?_
  refine load_out m K c fun _ => ?_
  refine store_out m K c 1 rfl (out_eq m c 1 hv hw) ?_
  refine await_arrival m K c (true, 2, 2) rfl ?_ ?_
  · clear h hv hw; revert c; decide +kernel
  refine await_arrival m K c (false, 2, 2) rfl ?_ ?_
  · clear h hv hw; revert c; decide +kernel
  refine load_x m K c 2 (zF c) ?_ ?_
  · clear h hv hw; revert c; decide +kernel
  exact run_pure c h

set_option maxRecDepth 65536 in
set_option maxHeartbeats 2000000 in
/-- The third piece of the result, and the loads of the fourth. -/
theorem part8 {v2 v5 v10 v12 : BitVec 32} {Kt : (Σ' (v246 : FVec F S128x512 .bf16) (v247 : BitVec 1), FVec F S128x512 .f32) → sProp (MT nD τ sig Unit (Elt F) ℕ UU ℕ)}
    (h : ∀ v, (recvs (true, 2, 3) c = true → v = pay m (true, 2, 3) (src true c)) → St m K c 51 ⊢ Kt ⟨k0_pay28 (xc m c 3 (zF c)), (Scalar.cmpi .sge (zw c) 1#32), k0_pay29 v⟩) :
    St m K c 48 ⊢ run c (k0_part8 (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7
      c v2 v5 (zw c) v10 v12 (xc m c 2 (zF c))) Kt := by
  rw [k0_part8_eq_skeleton]; unfold k0_part8_skel
  refine load_rb m K c (true, 2, 2) rfl fun v hv => ?_
  refine load_rb m K c (false, 2, 2) rfl fun w hw => ?_
  refine load_out m K c fun _ => ?_
  refine store_out m K c 2 rfl (out_eq m c 2 hv hw) ?_
  refine await_arrival m K c (true, 2, 3) rfl ?_ ?_
  · clear h hv hw; revert c; decide +kernel
  refine await_arrival m K c (false, 2, 3) rfl ?_ ?_
  · clear h hv hw; revert c; decide +kernel
  refine load_x m K c 3 (zF c) ?_ ?_
  · clear h hv hw; revert c; decide +kernel
  refine load_rb m K c (true, 2, 3) rfl fun u hu => ?_
  exact run_pure c (h u hu)

set_option maxRecDepth 65536 in
set_option maxHeartbeats 2000000 in
/-- The fourth piece of the result, and the first sends awaited. -/
theorem part9 {Kt : BitVec 1 → sProp (MT nD τ sig Unit (Elt F) ℕ UU ℕ)}
    {v : Vec F S1x1x128x512 .bf16} (hv : recvs (true, 2, 3) c = true → v = pay m (true, 2, 3) (src true c))
    (h : St m K c 58 ⊢ Kt (Scalar.cmpi .sle (zw c) 0#32)) :
    St m K c 51 ⊢ run c (k0_part9 (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7
      (zw c) (k0_pay28 (xc m c 3 (zF c))) (Scalar.cmpi .sge (zw c) 1#32) (k0_pay29 v)) Kt := by
  rw [k0_part9_eq_skeleton]; unfold k0_part9_skel
  refine load_rb m K c (false, 2, 3) rfl fun w hw => ?_
  refine load_out m K c fun _ => ?_
  refine store_out m K c 3 rfl (out_eq m c 3 hv hw) ?_
  refine await_done m K c (true, 0, 0) rfl ?_ ?_
  · clear h hv hw; revert c; decide +kernel
  refine await_done m K c (false, 0, 0) rfl ?_ ?_
  · clear h hv hw; revert c; decide +kernel
  refine await_done m K c (true, 0, 1) rfl ?_ ?_
  · clear h hv hw; revert c; decide +kernel
  refine await_done m K c (false, 0, 1) rfl ?_ ?_
  · clear h hv hw; revert c; decide +kernel
  refine await_done m K c (true, 0, 2) rfl ?_ ?_
  · clear h hv hw; revert c; decide +kernel
  refine await_done m K c (false, 0, 2) rfl ?_ ?_
  · clear h hv hw; revert c; decide +kernel
  exact run_pure c h

set_option maxRecDepth 65536 in
set_option maxHeartbeats 2000000 in
/-- The sends of the first two rounds awaited. -/
theorem part10 {Kt : BitVec 1 → sProp (MT nD τ sig Unit (Elt F) ℕ UU ℕ)}
    (h : St m K c 68 ⊢ Kt (Scalar.cmpi .sle (zw c) 2#32)) :
    St m K c 58 ⊢ run c (k0_part10 (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7
      (zw c) (Scalar.cmpi .sle (zw c) 0#32)) Kt := by
  rw [k0_part10_eq_skeleton]; unfold k0_part10_skel
  refine await_done m K c (true, 0, 3) rfl ?_ ?_
  · clear h; revert c; decide +kernel
  refine await_done m K c (false, 0, 3) rfl ?_ ?_
  · clear h; revert c; decide +kernel
  refine await_done m K c (true, 1, 0) rfl ?_ ?_
  · clear h; revert c; decide +kernel
  refine await_done m K c (false, 1, 0) rfl ?_ ?_
  · clear h; revert c; decide +kernel
  refine await_done m K c (true, 1, 1) rfl ?_ ?_
  · clear h; revert c; decide +kernel
  refine await_done m K c (false, 1, 1) rfl ?_ ?_
  · clear h; revert c; decide +kernel
  refine await_done m K c (true, 1, 2) rfl ?_ ?_
  · clear h; revert c; decide +kernel
  refine await_done m K c (false, 1, 2) rfl ?_ ?_
  · clear h; revert c; decide +kernel
  refine await_done m K c (true, 1, 3) rfl ?_ ?_
  · clear h; revert c; decide +kernel
  refine await_done m K c (false, 1, 3) rfl ?_ ?_
  · clear h; revert c; decide +kernel
  exact run_pure c h

end Cert.KernelIdeal.Chain

end
-- ==== Proof.KernelIdeal.Slots.lean ====
/-
What a device holds when the handshake is over, gathered into the state at step 0, and the state at the last step
taken apart again: the scratch buffers whole, every semaphore at zero.
-/
module

public import proofs.«01_k».proof.Proof.KernelIdeal.State
public import Idealize.ShloMosaic.Lib.ViewIndex
public import Idealize.ShloMosaic.Lib.Ring

@[expose] public section

noncomputable section

namespace Cert.KernelIdeal.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable (m : (ℓ : Loc nD τ sig) → Buf (Elt F) ℓ)

/-! ## A scratch buffer held slot by slot -/

/-- The elements of a scratch buffer under one slot. -/
def slotSet (M : Memref sig .tc .vmem S3x4x128x512 .bf16) (d : Bool) (a : Fin 3 × Fin 4) : Finset M.view.ty.Idx := (M.access (srect (d, a))).set

theorem slots_disjoint (M : Memref sig .tc .vmem S3x4x128x512 .bf16) (d : Bool) (a b : Fin 3 × Fin 4) (hab : a ≠ b) :
    Disjoint (slotSet M d a) (slotSet M d b) := by
  unfold slotSet
  by_cases h : a.1 = b.1
  · refine View.disjoint_slice (Rect.unit_disjoint (1 : Fin 4) ?_)
    have hne : a.2.val ≠ b.2.val := fun e => hab (Prod.ext h (Fin.ext e))
    show a.2.val + 1 ≤ b.2.val ∨ b.2.val + 1 ≤ a.2.val
    omega
  · refine View.disjoint_slice (Rect.unit_disjoint (0 : Fin 4) ?_)
    have hne : a.1.val ≠ b.1.val := fun e => h (Fin.ext e)
    show a.1.val + 1 ≤ b.1.val ∨ b.1.val + 1 ≤ a.1.val
    omega

theorem slots_cover (M : Memref sig .tc .vmem S3x4x128x512 .bf16) (hM : M.view.set = Finset.univ) (d : Bool) :
    Finset.univ.biUnion (slotSet M d) = Finset.univ := by
  refine Finset.eq_univ_iff_forall.mpr fun i => ?_
  have hi : i ∈ M.view.set := hM ▸ Finset.mem_univ i
  obtain ⟨x, -, rfl⟩ := Finset.mem_map.mp hi
  refine Finset.mem_biUnion.mpr ⟨(⟨(x 0).val, (x 0).isLt⟩, ⟨(x 1).val, (x 1).isLt⟩), Finset.mem_univ _, ?_⟩
  unfold slotSet
  refine (show M.view.emb x ∈ (((M.view.slice (srect (d, (⟨(x 0).val, (x 0).isLt⟩, ⟨(x 1).val, (x 1).isLt⟩)))).set : Finset M.view.ty.Idx)) from ?_)
  rw [View.set_slice]
  refine Finset.mem_map_of_mem _ (Rect.mem_set_unit.mpr fun a => ?_)
  have h2 : (x 2).val < 128 := (x 2).isLt
  have h3 : (x 3).val < 512 := (x 3).isLt
  fin_cases a
  · exact ⟨Nat.le_refl _, Nat.lt_succ_self _⟩
  · exact ⟨Nat.le_refl _, Nat.lt_succ_self _⟩
  · exact ⟨Nat.zero_le _, by show (x 2).val < 0 + 128; omega⟩
  · exact ⟨Nat.zero_le _, by show (x 3).val < 0 + 512; omega⟩

theorem slotAny_def (M : Memref sig .tc .vmem S3x4x128x512 .bf16) (d : Bool) (c : Dev nD) (a : Fin 3 × Fin 4) :
    slotAny (F := F) M c (d, a)
      = (iprop(∃ f : Buf (Elt F) (M.view.loc (c : Thread nD τ)), M.view.loc (c : Thread nD τ) ↦[slotSet M d a]{fullShare} f) : sProp 𝕄) := rfl

/-- A whole scratch buffer is its twelve slots; -/
theorem split_slots (M : Memref sig .tc .vmem S3x4x128x512 .bf16) (hM : M.view.set = Finset.univ) (d : Bool) (c : Dev nD) :
    (iprop(∃ f : Buf (Elt F) (M.view.loc (c : Thread nD τ)), M.view.loc (c : Thread nD τ) ↦{fullShare} f) : sProp 𝕄)
      ⊢ bigSep Finset.univ fun a : Fin 3 × Fin 4 => slotAny (F := F) M c (d, a) := by
  have e (f : Buf (Elt F) (M.view.loc (c : Thread nD τ))) : (M.view.loc (c : Thread nD τ) ↦{fullShare} f : sProp 𝕄)
      = bigSep Finset.univ fun a => M.view.loc (c : Thread nD τ) ↦[slotSet M d a]{fullShare} f :=
    pointsTo_blocks (ℓ := M.view.loc (c : Thread nD τ)) (slotSet M d) (slots_disjoint M d) (slots_cover M hM d) f
  have e' (f : Buf (Elt F) (M.view.loc (c : Thread nD τ))) (a : Fin 3 × Fin 4) :
      (M.view.loc (c : Thread nD τ) ↦[slotSet M d a]{fullShare} f : sProp 𝕄) ⊢ slotAny (F := F) M c (d, a) := by
    rw [slotAny_def]; iintro H; iexists f; iexact H
  iintro ⟨%f, H⟩
  iapply ((Entails.of_eq (e f)).trans (bigSep_mono fun a _ => e' f a))
  iexact H
/-- and its twelve slots are the buffer. -/
theorem join_slots (M : Memref sig .tc .vmem S3x4x128x512 .bf16) (hM : M.view.set = Finset.univ) (d : Bool) (c : Dev nD)
    (f₀ : Buf (Elt F) (M.view.loc (c : Thread nD τ))) :
    (bigSep Finset.univ fun a : Fin 3 × Fin 4 => slotAny (F := F) M c (d, a))
      ⊢ (iprop(∃ f : Buf (Elt F) (M.view.loc (c : Thread nD τ)), M.view.loc (c : Thread nD τ) ↦{fullShare} f) : sProp 𝕄) := by
  rw [bigSep_congr fun a _ => slotAny_def (F := F) M d c a]
  exact pointsTo_blocks_join_exists (ℓ := M.view.loc (c : Thread nD τ)) (slotSet M d) (slots_disjoint M d) (slots_cover M hM d) f₀

/-- A family over the slots is the one of each flow. -/
theorem by_flow (Φ : Slot → sProp 𝕄) :
    bigSep Finset.univ Φ = iprop((bigSep Finset.univ fun a => Φ (true, a)) ∗ (bigSep Finset.univ fun a => Φ (false, a))) := by
  rw [bigSep_univ_prod, bigSep_univ_eq_bigSepL [true, false] (by decide) (by decide), bigSepL_cons_cons, bigSepL_singleton]
  rfl

/-- The four scratch buffers of device `c`, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

theorem scratch_split (c : Dev nD) : scratch (F := F) c
    ⊢ iprop((bigSep Finset.univ fun s : Slot => slotAny (F := F) (sbM s.1) c s) ∗ (bigSep Finset.univ fun s : Slot => slotAny (F := F) (rbM s.1) c s)) := by
  unfold scratch
  rw [by_flow (fun s : Slot => slotAny (F := F) (sbM s.1) c s), by_flow (fun s : Slot => slotAny (F := F) (rbM s.1) c s)]
  iintro ⟨H0, H1, H2, H3⟩
  isplitl [H0 H1]
  · isplitl [H0]
    · iapply (split_slots (F := F) (sbM true) (View.set_whole _) true c); iexact H0
    · iapply (split_slots (F := F) (sbM false) (View.set_whole _) false c); iexact H1
  · isplitl [H2]
    · iapply (split_slots (F := F) (rbM true) (View.set_whole _) true c); iexact H2
    · iapply (split_slots (F := F) (rbM false) (View.set_whole _) false c); iexact H3

include m in
theorem scratch_join (c : Dev nD) :
    iprop((bigSep Finset.univ fun s : Slot => slotAny (F := F) (sbM s.1) c s) ∗ (bigSep Finset.univ fun s : Slot => slotAny (F := F) (rbM s.1) c s))
      ⊢ scratch (F := F) c := by
  unfold scratch
  rw [by_flow (fun s : Slot => slotAny (F := F) (sbM s.1) c s), by_flow (fun s : Slot => slotAny (F := F) (rbM s.1) c s)]
  iintro ⟨⟨H0, H1⟩, H2, H3⟩
  isplitl [H0]; · iapply (join_slots (F := F) (sbM true) (View.set_whole _) true c (m ((c : Thread nD τ).loc cc0_scratch0))); iexact H0
  isplitl [H1]; · iapply (join_slots (F := F) (sbM false) (View.set_whole _) false c (m ((c : Thread nD τ).loc cc0_scratch1))); iexact H1
  isplitl [H2]; · iapply (join_slots (F := F) (rbM true) (View.set_whole _) true c (m ((c : Thread nD τ).loc cc0_scratch2))); iexact H2
  iapply (join_slots (F := F) (rbM false) (View.set_whole _) false c (m ((c : Thread nD τ).loc cc0_scratch3))); iexact H3

/-! ## Entering -/

theorem keep_or_give (b : Bool) (P : sProp 𝕄) : P ⊢ iprop(onlyIf (F := F) b P ∗ onlyIf (F := F) (!b) P) := by
  cases b with
  | true => simp only [onlyIf, Bool.not_true]; iintro H; isplitl; (· iexact H); iempintro
  | false => simp only [onlyIf, Bool.not_false]; iintro H; isplitr; (· iempintro); iexact H

/-- The arrival slots a device gives to the devices that send into them, and those it keeps. -/
theorem give_slots (c : Dev nD) : (bigSep Finset.univ fun s : Slot => slotAny (F := F) (rbM s.1) c s)
    ⊢ iprop((bigSep Finset.univ fun s : Slot => onlyIf (F := F) (recvs s c) (slotAny (F := F) (rbM s.1) c s))
      ∗ (bigSep Finset.univ fun s : Slot => onlyIf (F := F) (!recvs s c) (slotAny (F := F) (rbM s.1) c s))) := by
  rw [← bigSep_sep']
  exact bigSep_mono fun s _ => keep_or_give (recvs s c) _

/-- The tokens and positions of the slot `s` that device `c` starts with. -/
def slotGhost (c : Dev nD) (s : Slot) : sProp 𝕄 :=
  iprop((dutyTok ER (sendCell c s) 0 false ∗ dutyTok ER (recvCell (tgt s.1 c) s) 0 false) ∗ atPos ER (sendCell c s) 0 ∅ 0 ∗ atPos ER (recvCell c s) 0 ∅ 0)

theorem enter_slot (c : Dev nD) (s : Slot) :
    iprop(slotGhost (F := F) c s ∗ slotAny (F := F) (sbM s.1) c s ∗ onlyIf (F := F) (active s c) (slotAny (F := F) (rbM s.1) (tgt s.1 c) s)
        ∗ onlyIf (F := F) (recvs s c) (cred (tallyAt (recvCell c s) () N)) ∗ onlyIf (F := F) (!recvs s c) (slotAny (F := F) (rbM s.1) c s))
      ⊢ iprop(sndAt (F := F) c s 0 ∗ rcvAt m c s false) := by
  unfold slotGhost
  iintro ⟨⟨⟨Ht1, Ht2⟩, Has, Har⟩, Hb, Ho, Hc, Hk⟩
  isplitl [Ht1 Ht2 Has Hb Ho]
  · unfold sndAt
    isplitl [Hb]; · iexact Hb
    isplitr [Has]
    · cases active s c with
      | true =>
        simp only [onlyIf, Bool.not_true, Bool.not_false]
        isplitl [Ho]; · iexact Ho
        isplitl [Ht1] <;> iassumption
      | false => dsimp only [onlyIf]; iempintro
    · iexact Has
  · unfold rcvAt
    isplitr [Har]
    · cases recvs s c with
      | true => simp only [onlyIf, either, Bool.not_true, Bool.not_false]; iexact Hc
      | false => simp only [onlyIf, either, Bool.not_true, Bool.not_false]; iexact Hk
    · iexact Har

/-- What the handshake leaves a device with makes its state at step 0. -/
theorem enter (c : Dev nD) :
    iprop((bigSep Finset.univ fun s : Slot => slotGhost (F := F) c s) ∗ (bigSep Finset.univ fun s : Slot => slotAny (F := F) (sbM s.1) c s)
        ∗ (bigSep Finset.univ fun s : Slot => onlyIf (F := F) (active s c) (slotAny (F := F) (rbM s.1) (tgt s.1 c) s))
        ∗ (bigSep Finset.univ fun s : Slot => onlyIf (F := F) (recvs s c) (cred (tallyAt (recvCell c s) () N)))
        ∗ (bigSep Finset.univ fun s : Slot => onlyIf (F := F) (!recvs s c) (slotAny (F := F) (rbM s.1) c s)))
      ⊢ iprop((bigSep Finset.univ fun s : Slot => sndAt (F := F) c s (sph s 0)) ∗ (bigSep Finset.univ fun s : Slot => rcvAt m c s (rph s 0))) := by
  rw [← bigSep_sep', ← bigSep_sep', ← bigSep_sep', ← bigSep_sep', ← bigSep_sep']
  refine bigSep_mono fun s _ => ?_
  rw [(start_ph s).1, (start_ph s).2]
  exact enter_slot m c s

/-! ## Leaving -/

/-- A persistent fact beside a family goes to each of its members. -/
theorem bigSep_beside {I : Type} [DecidableEq I] (S : Finset I) {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

variable (K : Dev nD × CK → ℕ)

/-- A slot's two cells closed, at the end. -/
theorem leave_slot (c : Dev nD) (s : Slot) :
    iprop(records m K ∗ sndAt (F := F) c s 2 ∗ rcvAt m c s true)
      ⊢ |={Set.univ}=> iprop((slotAny (F := F) (sbM s.1) c s ∗ slotAny (F := F) (rbM s.1) c s) ∗ semVal (sendCell c s) 0 ∗ semVal (recvCell c s) 0) := by
  unfold sndAt rcvAt
  iintro ⟨#HR, ⟨Hb, Has⟩, Hr, Har⟩
  ihave HIs := (inv_of m K (c, some (true, s))) $$ HR
  ihave HIr := (inv_of m K (c, some (false, s))) $$ HR
  imod (show iprop(cellInv ER (rd m) (K (c, some (true, s))) (sendCell c s) ∗ atPos ER (sendCell c s) (cond (active s c) 1 0) ∅ 0) ⊢ |={Set.univ}=> semVal (sendCell c s) 0 from by
      cases h : active s c with
      | true => exact Rounds.cell_close ER (rd m) (Set.mem_univ _) (fun h => h) (duties_later m (sendCell c s))
      | false => exact Rounds.cell_close ER (rd m) (Set.mem_univ _) (fun h => h) (duties_send_none m c s h)) $$ [HIs Has] with HzS
  · isplitl [HIs]
    · iexact HIs
    · iexact Has
  imod (show iprop(cellInv ER (rd m) (K (c, some (false, s))) (recvCell c s) ∗ atPos ER (recvCell c s) (cond (recvs s c) 1 0) ∅ 0) ⊢ |={Set.univ}=> semVal (recvCell c s) 0 from by
      cases h : recvs s c with
      | true => exact Rounds.cell_close ER (rd m) (Set.mem_univ _) (fun h => h) (duties_later m (recvCell c s))
      | false => exact Rounds.cell_close ER (rd m) (Set.mem_univ _) (fun h => h) (duties_recv_none m c s h)) $$ [HIr Har] with HzR
  · isplitl [HIr]
    · iexact HIr
    · iexact Har
  imodintro
  isplitl [Hb Hr]
  · isplitl [Hb]; · iexact Hb
    iapply (show either (F := F) (recvs s c) (slotHolds (rbM s.1) c s (pay m s (src s.1 c))) (slotAny (F := F) (rbM s.1) c s) ⊢ slotAny (F := F) (rbM s.1) c s from by
      cases recvs s c with
      | true => exact slotHolds_any _ c s _
      | false => exact BI.Entails.refl _)
    iexact Hr
  · isplitl [HzS] <;> iassumption

/-- The semaphores of the slots of device `c`, at zero. -/
def zeros (c : Dev nD) : sProp 𝕄 :=
  bigSep Finset.univ fun s : Slot => iprop(semVal (sendCell c s) 0 ∗ semVal (recvCell c s) 0)

/-- The state at the last step gives back the scratch buffers, every slot's semaphores at zero, and the result written. -/
theorem leave (c : Dev nD) :
    iprop(records m K ∗ (bigSep Finset.univ fun s : Slot => sndAt (F := F) c s (sph s 76)) ∗ (bigSep Finset.univ fun s : Slot => rcvAt m c s (rph s 76)))
      ⊢ |={Set.univ}=> iprop(scratch (F := F) c ∗ zeros (F := F) c) := by
  rw [← bigSep_sep']
  refine (bigSep_beside Finset.univ (R := records m K) (Ψ := fun s : Slot => iprop(|={Set.univ}=> iprop((slotAny (F := F) (sbM s.1) c s ∗ slotAny (F := F) (rbM s.1) c s) ∗ semVal (sendCell c s) 0 ∗ semVal (recvCell c s) 0))) fun s _ => ?_).trans
    ((bigSep_fupd _ _).trans (BI.fupd_mono ?_))
  · rw [(end_ph s).1, (end_ph s).2]; exact leave_slot m K c s
  · rw [bigSep_sep', bigSep_sep']
    unfold zeros
    exact sep_mono_left (scratch_join m c)

/-- A result whose four pieces are written is the device's result. -/
theorem out_whole (c : Dev nD) (f : (cc0_stg1_0 : Ref sig .tc).ty.Contents (Elt F))
    (h : ∀ p, (oM : Memref sig .tc .vmem S512x512 .f32).view.readAt (Elt F) (orect p).toLoadRect f = OUT m c p) : f = outAt m c := by
  funext i
  have hi : (i 0).val < 512 := (i 0).isLt
  have e := congrFun (h ⟨(i 0).val / 128, by omega⟩) (Shape.pair ⟨(i 0).val % 128, Nat.mod_lt _ (by decide)⟩ (i 1))
  refine Eq.trans ?_ e
  rw [View.readAt_rect]
  show f i = f _
  congr 1
  funext a
  refine Fin.ext ?_
  fin_cases a
  · show (i 0).val = 128 * ((i 0).val / 128) + 1 * ((i 0).val % 128)
    omega
  · show (i 1).val = 0 + 1 * (i 1).val
    omega

end Cert.KernelIdeal.Chain

end
-- ==== Proof.KernelIdeal.Body.lean ====
/-
The whole body of one device: the handshake on the barrier, the parts of the program, and what is left at the end.
-/
module

public import proofs.«01_k».proof.Proof.KernelIdeal.Parts
public import proofs.«01_k».proof.Proof.KernelIdeal.Slots
public import proofs.«01_k».proof.Proof.Gen.KernelIdeal.Frame
public import proofs.«01_k».proof.Proof.Gen.KernelIdeal.Points

@[expose] public section

noncomputable section

namespace Cert.KernelIdeal.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## The handshake -/

theorem dev1_eq : ∀ c : Dev nD, (⟨k0_dev1 c, k0_dev1_lt c⟩ : Dev nD) = barDst true c := by decide +kernel
theorem dev2_eq : ∀ c : Dev nD, (⟨k0_dev2 c, k0_dev2_lt c⟩ : Dev nD) = barDst false c := by decide +kernel
theorem zw_eq : ∀ c : Dev nD, Scalar.remsi (Scalar.divsi (Dev.word c) 1#32) 4#32 = zw c := by decide +kernel

/-- The tokens and the positions device `c` starts with. -/
def linear : sProp 𝕄 :=
  iprop(atPos ER (barCell c) 0 ∅ 0
    ∗ (dutyTok ER (barCell (barDst true c)) 0 (barDuty true c) ∗ dutyTok ER (barCell (barDst false c)) 0 (barDuty false c))
    ∗ bigSep Finset.univ fun s : Slot => slotGhost (F := F) c s)

/-- The credit of its arrivals. -/
def arrivals : sProp 𝕄 := bigSep Finset.univ fun s : Slot => onlyIf (F := F) (recvs s c) (cred (tallyAt (recvCell c s) () N))

/-- What device `c` holds before the handshake. -/
def before : sProp 𝕄 :=
  iprop(records m K ∗ levAts L lv ∗ linear (F := F) c ∗ cred (tallyAt (barCell c) () 2) ∗ arrivals (F := F) c ∗ scratch (F := F) c
    ∗ (∃ W, owes (c : Thread nD τ) (O₀ c) W) ∗ xPts m c
    ∗ (∃ f : Buf (Elt F) (((c : Dev nD) : Thread nD τ).loc cc0_stg1_0), (((c : Dev nD) : Thread nD τ).loc cc0_stg1_0) ↦{fullShare} f))

theorem outPts_start : (iprop(∃ f : Buf (Elt F) (((c : Dev nD) : Thread nD τ).loc cc0_stg1_0), (((c : Dev nD) : Thread nD τ).loc cc0_stg1_0) ↦{fullShare} f) : sProp 𝕄)
    ⊢ outPts m c (fun p => oph p 0) := by
  unfold outPts
  iintro ⟨%f, H⟩
  iexists f
  isplitr
  · ipureintro; intro p hp; exact absurd ((start_oph p).symm.trans hp) (by decide)
  · iexact H

/-- A family over the slots that is given by flow, put together. -/
theorem both_flows (Φ : Slot → sProp 𝕄) :
    iprop((bigSep Finset.univ fun a => Φ (true, a)) ∗ (bigSep Finset.univ fun a => Φ (false, a))) ⊢ bigSep Finset.univ Φ :=
  Entails.of_eq (by_flow Φ).symm

/-- The signal for one flow: the credit owed for it is paid with the arrival slots of that flow. -/
theorem signal_flow (e : Bool) {α : Type} {Q : α → sProp 𝕄} {k : PUnit → Prog (TpuEff nD τ sig (Elt F) Λ₀ .tc) α}
    (O' : CellTallies nD τ sig Unit) (W : Waits sig Unit) :
    iprop(records m K ∗ owes (c : Thread nD τ) (O' + tallyAt (barCell (barDst e c)) () 1) W
        ∗ dutyTok ER (barCell (barDst e c)) 0 (barDuty e c)
        ∗ (bigSep Finset.univ fun rp : Fin 3 × Fin 4 => onlyIf (recvs (e, rp) c) (slotAny (F := F) (rbM e) c (e, rp))))
      ⊢ iprop((owes (c : Thread nD τ) O' W -∗ run c (k ⟨⟩) Q)
          -∗ run c (Prog.op (.semSignal (barDst e c : Thread nD τ) barS (1#32).toNat) k) Q) := by
  unfold run
  iintro ⟨#HR, HO, Ht, Hp⟩ Hk
  iapply (Rounds.wp_signal 𝒱₀ ER (rd m) (c : Thread nD τ) none (dst := (barDst e c : Thread nD τ)) (κ := K (barDst e c, none))
      (d := barDuty e c) (by rw [duties_bar]; exact Finset.mem_univ _) ((amount_bar m (barDst e c) (barDuty e c)).trans (by decide)) () O' rfl)
    $$ [HO Ht Hp]
  · isplitr; · iapply (inv_of m K (barDst e c, none)); iexact HR
    isplitl [HO]; · iexact HO
    isplitl [Ht]; · iexact Ht
    isplitl [Hp]
    · rw [payload_bar]; iapply (barPay_intro (F := F) c e); iexact Hp
    · iapply (reached_of m K (barDst e c, none)); iexact HR
  iexact Hk

set_option maxHeartbeats 800000 in
/-- The handshake takes a device from what it starts with to its state at step 0, and leaves its barrier at zero. -/
theorem handshake {Kt : (Σ' (d0 : Dev nD) (v2 : BitVec 32) (v5 : BitVec 32) (v8 : BitVec 32) (v10 : BitVec 32) (v12 : BitVec 32) (v26 : BitVec 1) (v27 : BitVec 1), BitVec 32) → sProp (MT nD τ sig Unit (Elt F) ℕ UU ℕ)}
    (h : ∀ v2 v5 v10 v12 v26 v27 v29, St m K c 0 ⊢ Kt ⟨c, v2, v5, zw c, v10, v12, v26, v27, v29⟩) :
    before m K c ⊢ run c (k0_part1 (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        cc0_scratch4 cc0_scratch5 cc0_scratch6 cc0_scratch7) (fun a => iprop(Kt a ∗ semVal (barCell c) 0)) := by
  rw [k0_part1_eq_skeleton]; unfold k0_part1_skel run
  simp only [semSignalWord, semWaitWord, Prog.lift, Prog.bind_op, Prog.bind_ret, Prog.pure_eq_ret, wp_deviceId, zw_eq, dev1_eq, dev2_eq]
  unfold before linear arrivals
  iintro ⟨#HR, #Hlev, ⟨HatB, ⟨HtT, HtF⟩, Hg⟩, HcB, HcV, Hscr, ⟨%W, HO⟩, Hx, Hout⟩
  ihave Hs := (scratch_split (F := F) c) $$ Hscr
  icases Hs with ⟨Hsb, Hrb⟩
  ihave Hs := (give_slots (F := F) c) $$ Hrb
  icases Hs with ⟨Hgive, Hkeep⟩
  ihave Hs := (Entails.of_eq (by_flow (fun s : Slot => onlyIf (F := F) (recvs s c) (slotAny (F := F) (rbM s.1) c s)))) $$ Hgive
  icases Hs with ⟨HgT, HgF⟩
  unfold O₀
  iapply (signal_flow m K c true (O₁ c) W) $$ [HO HtT HgT]
  · isplitr; · iexact HR
    isplitl [HO]; · iexact HO
    isplitl [HtT] <;> iassumption
  iintro HO
  unfold O₁ run
  iapply (signal_flow m K c false (owed c 0) W) $$ [HO HtF HgF]
  · isplitr; · iexact HR
    isplitl [HO]; · iexact HO
    isplitl [HtF] <;> iassumption
  iintro HO
  unfold run
  iapply (Rounds.wp_wait_rest_token 𝒱₀ ER (rd m) (c : Thread nD τ) none (κ := K (c, none))
      (wpE_semWait_eq 𝒱₀ (c : Thread nD τ) none Set.univ) (Set.mem_univ _) () (O := owed c 0) (W := W) (R := 0) (m := 0) (T := ∅)
      (by rw [expect_bar]; decide)) $$ [HcB HO HatB]
  · isplitr; · iapply (inv_of m K (c, none)); iexact HR
    isplitl [HcB]; · iexact HcB
    isplitl [HO]; · iexact HO
    isplitr
    · iapply (mayWait_owed (F := F) c (.reg barS) 0 (fun s _ => by rw [lv_bar]; omega)); iexact Hlev
    iexact HatB
  iintro ⟨HO, HatB, -, Hpay⟩
  ihave Hp := (Entails.of_eq (rest_bar m c)) $$ Hpay
  ihave Hp' := (both_flows (fun s : Slot => onlyIf (F := F) (active s c) (slotAny (F := F) (rbM s.1) (tgt s.1 c) s))) $$ [Hp]
  · unfold barPay; iexact Hp
  rw [wp_ret]
  imod (show iprop(cellInv ER (rd m) (K (c, none)) (barCell c) ∗ atPos ER (barCell c) (0 + 1) ∅ 0) ⊢ |={Set.univ}=> semVal (barCell c) 0 from
      Rounds.cell_close ER (rd m) (Set.mem_univ _) (fun h => h) (duties_later m (barCell c))) $$ [HatB] with HatB
  · isplitr; · iapply (inv_of m K (c, none)); iexact HR
    iexact HatB
  imodintro
  isplitr [HatB]
  · iapply (h _ _ _ _ _ _ _)
    unfold St
    isplitr; · iexact HR
    isplitr; · iexact Hlev
    ihave He := (enter m c) $$ [Hg Hsb Hp' HcV Hkeep]
    · isplitl [Hg]; · iexact Hg
      isplitl [Hsb]; · iexact Hsb
      isplitl [Hp']; · iexact Hp'
      isplitl [HcV] <;> iassumption
    icases He with ⟨HS, HV⟩
    isplitl [HS]; · iexact HS
    isplitl [HV]; · iexact HV
    isplitl [HO]; · iexists _; iexact HO
    isplitl [Hx]; · iexact Hx
    iapply (outPts_start m c); iexact Hout
  · iexact HatB

/-! ## The program -/

/-- A program run from `P` beside what its first part leaves over. -/
theorem run_bind_beside {α β : Type} {P R : sProp (MT nD τ sig Unit (Elt F) ℕ UU ℕ)} {p : Prog (TpuEff nD τ sig (Elt F) Λ₀ .tc) α}
    {k : α → Prog (TpuEff nD τ sig (Elt F) Λ₀ .tc) β} {Q : β → sProp (MT nD τ sig Unit (Elt F) ℕ UU ℕ)}
    (hp : P ⊢ run c p (fun a => iprop(run c (k a) Q ∗ R))) : P ⊢ run c (p >>= k) (fun b => iprop(Q b ∗ R)) := by
  unfold run at *
  rw [wp_bind]
  exact hp.trans (wp_mono _ _ _ fun a => wp_frame_r _ _ _)
theorem run_bind {α β : Type} {P : sProp (MT nD τ sig Unit (Elt F) ℕ UU ℕ)} {p : Prog (TpuEff nD τ sig (Elt F) Λ₀ .tc) α}
    {k : α → Prog (TpuEff nD τ sig (Elt F) Λ₀ .tc) β} {Q : β → sProp (MT nD τ sig Unit (Elt F) ℕ UU ℕ)}
    (hp : P ⊢ run c p (fun a => run c (k a) Q)) : P ⊢ run c (p >>= k) Q := by
  unfold run at *
  rw [wp_bind]
  exact hp

/-- A program that only hands back a value, after an update. -/
theorem run_close {α : Type} {P : sProp (MT nD τ sig Unit (Elt F) ℕ UU ℕ)} {a : α} {Q : α → sProp (MT nD τ sig Unit (Elt F) ℕ UU ℕ)}
    (h : P ⊢ |={Set.univ}=> Q a) : P ⊢ run c (pure a) Q := by
  refine h.trans ?_
  show _ ⊢ run c (Prog.ret a) Q
  unfold run; rw [wp_ret]

/-- What device `c` holds at the end: the scratch buffers, its slots' semaphores at zero, nothing owed, its block of `x` and
    its result. -/
def finished : sProp 𝕄 :=
  iprop(scratch (F := F) c ∗ zeros (F := F) c ∗ (∃ W, owes (c : Thread nD τ) 0 W) ∗ xPts m c
    ∗ ((((c : Dev nD) : Thread nD τ).loc cc0_stg1_0) ↦{fullShare} (outAt m c)))

theorem outPts_end : outPts m c (fun p => oph p 76) ⊢ ((((c : Dev nD) : Thread nD τ).loc cc0_stg1_0) ↦{fullShare} (outAt m c) : sProp 𝕄) := by
  unfold outPts
  iintro ⟨%f, %hf, H⟩
  rw [← out_whole m c f fun p => hf p (end_oph p)]
  iexact H

theorem finish : St m K c 76 ⊢ |={Set.univ}=> finished m c := by
  unfold St finished
  rw [owed_end]
  iintro ⟨HR, -, HS, HV, HO, Hx, Hout⟩
  imod (leave m K c) $$ [HR HS HV] with ⟨Hscr, Hz⟩
  · isplitl [HR]; · iexact HR
    isplitl [HS] <;> iassumption
  imodintro
  isplitl [Hscr]; · iexact Hscr
  isplitl [Hz]; · iexact Hz
  isplitl [HO]; · iexact HO
  isplitl [Hx]; · iexact Hx
  iapply (outPts_end m c); iexact Hout

set_option maxRecDepth 65536 in
set_option maxHeartbeats 2000000 in
/-- The body takes a device from what it starts with to what it holds at the end. -/
theorem body_run : before m K c ⊢ run c (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        cc0_scratch4 cc0_scratch5 cc0_scratch6 cc0_scratch7) (fun _ => iprop(finished m c ∗ semVal (barCell c) 0)) := by
  rw [cc0_body_eq_skeleton]; unfold cc0_body_skel
  refine run_bind_beside c (handshake m K c fun v2 v5 v10 v12 v26 v27 v29 => ?_)
  refine run_bind c (part2 m K c fun v52 v55 => ?_)
  refine run_bind c (part3 m K c ?_)
  refine run_bind c (part4 m K c fun v107 v110 => ?_)
  refine run_bind c (part5 m K c ?_)
  refine run_bind c (part6 m K c ?_)
  refine run_bind c (part7 m K c ?_)
  refine run_bind c (part8 m K c fun v hv => ?_)
  refine run_bind c (part9 m K c hv ?_)
  refine run_bind c (part10 m K c ?_)
  refine await_done m K c (true, 2, 0) rfl ?_ ?_
  · clear hv; revert c; decide +kernel
  refine await_done m K c (false, 2, 0) rfl ?_ ?_
  · clear hv; revert c; decide +kernel
  refine await_done m K c (true, 2, 1) rfl ?_ ?_
  · clear hv; revert c; decide +kernel
  refine await_done m K c (false, 2, 1) rfl ?_ ?_
  · clear hv; revert c; decide +kernel
  refine await_done m K c (true, 2, 2) rfl ?_ ?_
  · clear hv; revert c; decide +kernel
  refine await_done m K c (false, 2, 2) rfl ?_ ?_
  · clear hv; revert c; decide +kernel
  refine await_done m K c (true, 2, 3) rfl ?_ ?_
  · clear hv; revert c; decide +kernel
  refine await_done m K c (false, 2, 3) rfl ?_ ?_
  · clear hv; revert c; decide +kernel
  exact run_close c (finish m K c)

end Cert.KernelIdeal.Chain

end
-- ==== Proof.KernelIdeal.Launch.lean ====
/-
The launch: the cells and the tokens of the chain dealt to the devices, the credit each starts with, and the run of the
program on the whole mesh.
-/
module

public import proofs.«01_k».proof.Proof.KernelIdeal.Body
public import Idealize.ShloMosaic.Lib.Pipeline.CollectiveSegs

@[expose] public section

noncomputable section

namespace Cert.KernelIdeal.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What a device's body starts from, beside its buffers; -/
def start (c : Dev nD) : sProp 𝕄 :=
  iprop((∃ K, records m K ∗ linear (F := F) c) ∗ cred (tallyAt (barCell c) () 2) ∗ arrivals (F := F) c ∗ levAts L lv)
/-- before the body, and after it. -/
def Φ₀ (c : Dev nD) : sProp 𝕄 := iprop(start m c ∗ scratch (F := F) c)
def Φ₁ (c : Dev nD) : sProp 𝕄 := iprop(scratch (F := F) c ∗ zeros (F := F) c ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-- A whole buffer held at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(Φ₁ (F := F) c ∗ (dats m 0 c).owesAt () t0_0.succ ∗ stg c cc0_stg0_0 (xstg m c) ∗ stg c cc0_stg1_0 (outAt m c))

theorem before_x (c : Dev nD) (d) : (dats m 0 c).before (0 : Fin 2) t0_0 d = xstg m c := by
  unfold Dat.before; rw [if_pos (fetch0_0 t0_0)]; rfl

/-- What the launch holds for the body is what the body starts with; -/
theorem pre_before (c : Dev nD) : bodyPre m c ⊢ iprop(∃ K, before m K c) := by
  unfold bodyPre Φ₀ start Dat.owesAt Pipeline.owesWithin
  rw [show (dats m 0 c).owed t0_0.castSucc = O₀ c from rfl]
  iintro ⟨⟨⟨⟨%K, HR, Hl⟩, Hc, Ha, Hlev⟩, Hscr⟩, ⟨%W, -, HO⟩, ⟨%d, %f, %hf, Hx⟩, ⟨%d', %g, -, Hout⟩⟩
  rw [before_x] at hf
  subst hf
  iexists K
  unfold before xPts
  isplitl [HR]; · iexact HR
  isplitl [Hlev]; · iexact Hlev
  isplitl [Hl]; · iexact Hl
  isplitl [Hc]; · iexact Hc
  isplitl [Ha]; · iexact Ha
  isplitl [Hscr]; · iexact Hscr
  isplitl [HO]; · iexists W; iexact HO
  isplitl [Hx]; · iexact Hx
  iexists g; iexact Hout
/-- and what it ends with is what the launch asks of it. -/
theorem finished_post (c : Dev nD) : iprop(finished m c ∗ semVal (barCell c) 0) ⊢ bodyPost m c := by
  unfold finished bodyPost Φ₁ Dat.owesAt Pipeline.owesWithin xPts
  rw [show (dats m 0 c).owed t0_0.succ = 0 from rfl]
  iintro ⟨⟨Hscr, Hz, ⟨%W, HO⟩, Hx, Hout⟩, HB⟩
  isplitl [Hscr Hz HB]
  · isplitl [Hscr]; · iexact Hscr
    isplitl [Hz] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

/-- The body's obligation on device `c`. -/
theorem body_obligation (c : Dev nD) : BodyObligation (dats (F := F) m 0 c) (defs₀ (F := F)) 𝒱₀ () Set.univ := fun t => by
  rw [show t = t0_0 from fin_N0 t]
  rw [bigSep_W0, bigSep_W0]
  simp only [owns_stg]
  show bodyPre m c ⊢ wp frame (wpE (defs₀ (F := F)) 𝒱₀ c none) Set.univ
    (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        cc0_scratch4 cc0_scratch5 cc0_scratch6 cc0_scratch7) (fun _ => bodyPost m c)
  refine (pre_before m c).trans ?_
  iintro ⟨%K, H⟩
  iapply ((body_run m K c).trans (wp_mono _ _ _ fun _ => finished_post m c))
  iexact H

/-! ## The cells and their tokens -/

/-- A device's own semaphores. -/
abbrev osem (k : Bool × Slot) : SemLoc sig := csem (some k)

theorem ownSemFacts : Pipeline.OwnSemFacts cfg0.spec osem where
  isScoped := by decide +kernel
  inj := fun k k' h => Option.some.inj (csem_inj h)
  disj := by decide +kernel

theorem share_eq (c : Dev nD) (w : Fin cfg0.W) : (dats m 0 c).share w = fullShare := by unfold Dat.share; split <;> rfl

theorem kcell_inj : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  rw [h1, csem_inj h2]
def chainCells : Finset (GSem nD τ sig) := Finset.univ.map ⟨kcell, kcell_inj⟩

/-- The tokens of device `c`'s own cells: one per duty of its barrier, one per slot's sending and receiving cell. -/
abbrev tokOf (x : Dev nD × (Bool ⊕ (Bool × Slot))) : GSem nD τ sig × ℕ × Bool :=
  match x.2 with | .inl e => (kcell (x.1, none), 0, e) | .inr k => (kcell (x.1, some k), 0, false)
theorem tokOf_inj : Function.Injective tokOf := by
  rintro ⟨c, e | k⟩ ⟨c', e' | k'⟩ h
  · have h1 := kcell_inj (congrArg Prod.fst h)
    have h2 : e = e' := congrArg (fun x : GSem nD τ sig × ℕ × Bool => x.2.2) h
    exact Prod.ext (Prod.mk.inj h1).1 (congrArg Sum.inl h2)
  · exact nomatch (Prod.mk.inj (kcell_inj (congrArg Prod.fst h))).2
  · exact nomatch (Prod.mk.inj (kcell_inj (congrArg Prod.fst h))).2
  · obtain ⟨h1, h2⟩ := Prod.mk.inj (kcell_inj (congrArg Prod.fst h))
    exact Prod.ext h1 (congrArg Sum.inr (Option.some.inj h2))
def chainToks : Finset (GSem nD τ sig × ℕ × Bool) := Finset.univ.map ⟨tokOf, tokOf_inj⟩

def u₀ : UU := (initOf (Pipeline.cells cfgs cellOf_inj) (Pipeline.launchToks cfgs cellOf_inj), initOf chainCells chainToks)

/-- A family over a device's cells is its barrier's member beside those of its slots. -/
theorem by_name (Φ : CK → sProp 𝕄) : bigSep Finset.univ Φ = iprop(Φ none ∗ bigSep Finset.univ fun k => Φ (some k)) := by
  rw [bigSep_univ_at Φ none, show (Finset.univ.erase none : Finset CK) = Finset.univ.map Function.Embedding.some from by
    ext k; cases k <;> simp, bigSep_map]
  rfl
theorem by_slot (Φ : Bool × Slot → sProp 𝕄) : bigSep Finset.univ Φ = bigSep Finset.univ fun s : Slot => iprop(Φ (true, s) ∗ Φ (false, s)) := by
  rw [bigSep_univ_prod, bigSep_univ_eq_bigSepL [true, false] (by decide) (by decide), bigSepL_cons_cons, bigSepL_singleton, bigSep_sep']
  rfl
theorem by_bool (Φ : Bool → sProp 𝕄) : bigSep Finset.univ Φ = iprop(Φ true ∗ Φ false) := by
  rw [bigSep_univ_eq_bigSepL [true, false] (by decide) (by decide), bigSepL_cons_cons, bigSepL_singleton]
  rfl

/-- The tokens of device `c`'s own cells, -/
def toks (c : Dev nD) : sProp 𝕄 :=
  iprop((bigSep Finset.univ fun e : Bool => dutyTok ER (barCell c) 0 e)
    ∗ (bigSep Finset.univ fun s : Slot => dutyTok ER (sendCell c s) 0 false) ∗ (bigSep Finset.univ fun s : Slot => dutyTok ER (recvCell c s) 0 false))
/-- and the tokens of the duties it pays. -/
def payToks (c : Dev nD) : sProp 𝕄 :=
  iprop((bigSep Finset.univ fun e : Bool => dutyTok ER (barCell (barDst e c)) 0 (barDuty e c))
    ∗ (bigSep Finset.univ fun s : Slot => dutyTok ER (sendCell c s) 0 false) ∗ (bigSep Finset.univ fun s : Slot => dutyTok ER (recvCell (tgt s.1 c) s) 0 false))

/-- A device with a slot, and the device that receives in that slot from it. -/
def hop : Dev nD × Slot ≃ Dev nD × Slot :=
  ⟨fun x => (tgt x.2.1 x.1, x.2), fun x => (src x.2.1 x.1, x.2), fun x => Prod.ext (src_tgt _ _) rfl, fun x => Prod.ext (tgt_src _ _) rfl⟩

/-- The tokens go from the device whose cell they are of to the device that pays with them. -/
theorem toks_dealt : (bigSep Finset.univ fun c : Dev nD => toks (F := F) c) ⊢ bigSep Finset.univ fun c : Dev nD => payToks (F := F) c := by
  have hB : (bigSep Finset.univ fun c : Dev nD => bigSep Finset.univ fun e : Bool => (dutyTok ER (barCell c) 0 e : sProp 𝕄))
      = bigSep Finset.univ fun c : Dev nD => bigSep Finset.univ fun e : Bool => dutyTok ER (barCell (barDst e c)) 0 (barDuty e c) := by
    rw [← bigSep_univ_prod (fun x : Dev nD × Bool => (dutyTok ER (barCell x.1) 0 x.2 : sProp 𝕄)), bigSep_univ_equiv barEquiv,
      bigSep_univ_prod]
    rfl
  have hV : (bigSep Finset.univ fun c : Dev nD => bigSep Finset.univ fun s : Slot => (dutyTok ER (recvCell c s) 0 false : sProp 𝕄))
      = bigSep Finset.univ fun c : Dev nD => bigSep Finset.univ fun s : Slot => dutyTok ER (recvCell (tgt s.1 c) s) 0 false := by
    rw [← bigSep_univ_prod (fun x : Dev nD × Slot => (dutyTok ER (recvCell x.1 x.2) 0 false : sProp 𝕄)), bigSep_univ_equiv hop,
      bigSep_univ_prod]
    rfl
  unfold toks payToks
  rw [bigSep_sep', bigSep_sep', bigSep_sep', bigSep_sep', hB, hV]

/-- What the launch deals device `c`, -/
def G (c : Dev nD) : sProp 𝕄 :=
  iprop((bigSep Finset.univ fun k : CK => roundState ER (rd m) (kcell (c, k)) 0)
    ∗ ((bigSep Finset.univ fun k : CK => atPos ER (kcell (c, k)) 0 ∅ 0) ∗ bigSep Finset.univ fun k : CK => reached ER (kcell (c, k)) 0) ∗ toks (F := F) c)
/-- and what the devices make of it together. -/
def G' (c : Dev nD) : sProp 𝕄 := iprop(∃ K, records m K ∗ linear (F := F) c)

theorem cells_by_dev (Φ : GSem nD τ sig → sProp 𝕄) :
    bigSep chainCells Φ = bigSep Finset.univ fun c : Dev nD => bigSep Finset.univ fun k : CK => Φ (kcell (c, k)) := by
  unfold chainCells; rw [bigSep_map, bigSep_univ_prod]; rfl
theorem toks_by_dev : bigSep chainToks (fun x => (dutyTok ER x.1 x.2.1 x.2.2 : sProp 𝕄)) = bigSep Finset.univ fun c : Dev nD => toks (F := F) c := by
  unfold chainToks; rw [bigSep_map, bigSep_univ_prod]
  refine bigSep_congr fun c _ => ?_
  unfold toks
  rw [bigSep_univ_sum, by_slot, bigSep_sep']
  rfl

/-- The chain's share of the launch's ghost state, dealt. -/
theorem fund_chain : BI.own (ER (initOf chainCells chainToks)) ⊢ (|==> bigSep Finset.univ (G m) : sProp 𝕄) := by
  iintro HX
  imod (Rounds.fund ER (rd m) chainCells chainToks) $$ HX with ⟨Hst, Hr, Hat, Htok⟩
  imodintro
  ihave Hst' := (Entails.of_eq (cells_by_dev fun g => roundState ER (rd m) g 0)) $$ Hst
  ihave Hat' := (Entails.of_eq (cells_by_dev fun g => atPos ER g 0 ∅ 0)) $$ Hat
  ihave Hr' := (Entails.of_eq (cells_by_dev fun g => reached ER g 0)) $$ Hr
  ihave Htok' := (Entails.of_eq (toks_by_dev (F := F))) $$ Htok
  unfold G; simp only [bigSep_sep']
  isplitl [Hst']; · iexact Hst'
  isplitl [Hat' Hr']
  · isplitl [Hat'] <;> iassumption
  iexact Htok'

theorem unscoped_eq (c : Dev nD) : (unscopedSems0 c : sProp 𝕄) = semVal (barCell c) 0 := by
  unfold unscopedSems0; rw [bigSep_eq_bigSepL_of_eq [SemLoc.reg barS] (by decide +kernel) (by decide)]; rfl

abbrev ownZeros (c : Dev nD) : sProp 𝕄 := Pipeline.ownSems0 (Ix := Unit) (Name := ℕ) (U := UU) (Lvl := ℕ) (Val := Elt F) (τ := τ) osem c

theorem all_zeros (c : Dev nD) : iprop(ownZeros (F := F) c ∗ unscopedSems0 c) ⊢ (bigSep Finset.univ fun k : CK => semVal (kcell (c, k)) 0 : sProp 𝕄) := by
  rw [by_name (fun k : CK => semVal (kcell (c, k)) 0), unscoped_eq]
  unfold ownZeros Pipeline.ownSems0
  iintro ⟨H, HB⟩
  isplitl [HB]; · iexact HB
  iexact H

/-- The cells' invariants of one device, from its semaphores at zero. -/
theorem cells_open (c : Dev nD) :
    iprop((bigSep Finset.univ fun k : CK => semVal (kcell (c, k)) 0) ∗ bigSep Finset.univ fun k : CK => roundState ER (rd m) (kcell (c, k)) 0)
      ⊢ (|={Set.univ}=> bigSep Finset.univ fun k : CK => iprop(∃ κ : ℕ, cellInv ER (rd m) κ (kcell (c, k))) : sProp 𝕄) := by
  rw [← bigSep_sep']
  exact (bigSep_mono fun k _ => (Rounds.body_intro ER (rd m) (kcell (c, k))).trans inv_alloc).trans (bigSep_fupd _ _)

/-- What one device's step of the launch gives. -/
def opened (c : Dev nD) : sProp 𝕄 :=
  iprop((bigSep Finset.univ fun k : CK => iprop(∃ κ : ℕ, cellInv ER (rd m) κ (kcell (c, k))))
    ∗ ((bigSep Finset.univ fun k : CK => atPos ER (kcell (c, k)) 0 ∅ 0) ∗ bigSep Finset.univ fun k : CK => reached ER (kcell (c, k)) 0) ∗ toks (F := F) c)

theorem open_core (c : Dev nD) : iprop(ownZeros (F := F) c ∗ unscopedSems0 c ∗ G m c) ⊢ |={Set.univ}=> opened m c := by
  unfold G opened
  iintro ⟨Hos, Hus, Hst, Hrest⟩
  ihave Hv := (all_zeros (F := F) c) $$ [Hos Hus]
  · isplitl [Hos] <;> iassumption
  imod (cells_open m c) $$ [Hv Hst] with Hinv
  · isplitl [Hv] <;> iassumption
  imodintro
  isplitl [Hinv] <;> iassumption

/-- A device's positions and the tokens it pays with. -/
theorem linear_intro (c : Dev nD) :
    iprop((bigSep Finset.univ fun k : CK => atPos ER (kcell (c, k)) 0 ∅ 0) ∗ payToks (F := F) c) ⊢ linear (F := F) c := by
  unfold payToks linear slotGhost
  rw [by_name (fun k : CK => atPos ER (kcell (c, k)) 0 ∅ 0), by_slot, by_bool, bigSep_sep', bigSep_sep', bigSep_sep', bigSep_sep']
  iintro ⟨⟨HaB, HaS, HaV⟩, HtB, HtS, HtV⟩
  isplitl [HaB]; · iexact HaB
  isplitl [HtB]; · iexact HtB
  isplitl [HtS HtV]
  · isplitl [HtS]
    · iexact HtS
    · iexact HtV
  isplitl [HaS]
  · iexact HaS
  · iexact HaV

theorem linear_all :
    iprop((bigSep Finset.univ fun c : Dev nD => bigSep Finset.univ fun k : CK => atPos ER (kcell (c, k)) 0 ∅ 0) ∗ bigSep Finset.univ fun c : Dev nD => payToks (F := F) c)
      ⊢ bigSep Finset.univ fun c : Dev nD => linear (F := F) c := by
  rw [← bigSep_sep']
  exact bigSep_mono fun c _ => linear_intro c

theorem share_records (K : Dev nD × CK → ℕ) (c : Dev nD) : iprop(records m K ∗ linear (F := F) c) ⊢ G' m c := by
  unfold G'; iintro H; iexists K; iexact H

theorem regroup : (bigSep Finset.univ fun c : Dev nD => opened m c) ⊢ bigSep Finset.univ (G' m) := by
  unfold opened
  rw [bigSep_sep', bigSep_sep', bigSep_sep', ← bigSep_univ_prod (fun ck : Dev nD × CK => iprop(∃ κ : ℕ, cellInv ER (rd m) κ (kcell ck))),
    ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd m) κ (kcell ck) : sProp 𝕄))) $$ HI
  icases HK with ⟨%K, #HI⟩
  ihave Htk := (toks_dealt (F := F)) $$ Htok
  ihave Hl := (linear_all (F := F)) $$ [Hat Htk]
  · isplitl [Hat] <;> iassumption
  iapply (bigSep_beside Finset.univ (R := records m K) fun c _ => share_records m K c)
  isplitr
  · unfold records; isplitl; · iexact HI
    iexact HR
  · iexact Hl

/-- The step of the launch that all devices take together. -/
theorem glob : (bigSep Finset.univ fun c => iprop(ownZeros (F := F) c ∗ unscopedSems0 c ∗ G m c) : sProp 𝕄) ⊢ |={Set.univ}=> bigSep Finset.univ (G' m) :=
  ((bigSep_mono fun c _ => open_core m c).trans (bigSep_fupd _ _)).trans (BI.fupd_mono (regroup m))

/-! ## The credit at launch -/

theorem recv_inj {c c' : Dev nD} {s s' : Slot} (h : recvCell c s = recvCell c' s') : c = c' ∧ s = s' := by
  have h' := kcell_inj (a₁ := (c, some (false, s))) (a₂ := (c', some (false, s'))) h
  obtain ⟨h1, h2⟩ := Prod.mk.inj h'
  exact ⟨h1, (Prod.mk.inj (Option.some.inj h2)).2⟩
theorem bar_inj' {c c' : Dev nD} (h : barCell c = barCell c') : c = c' :=
  (Prod.mk.inj (kcell_inj (a₁ := (c, none)) (a₂ := (c', none)) h)).1
theorem recv_ne_bar {c c' : Dev nD} {s : Slot} : recvCell c s ≠ barCell c' := fun h => nomatch congrArg Prod.snd h

theorem owed_bar (d c : Dev nD) : owed d 0 (barCell c) () = 0 := by
  unfold owed
  rw [Finset.sum_apply, Finsupp.finset_sum_apply]
  refine Finset.sum_eq_zero fun s _ => ?_
  split
  · rw [tallyAt_apply]; exact if_neg fun h => recv_ne_bar h.1.symm
  · rfl
theorem owed_recv (d c : Dev nD) (s : Slot) :
    owed d 0 (recvCell c s) () = if tgt s.1 d = c ∧ active s d = true then N else 0 := by
  unfold owed
  rw [Finset.sum_apply, Finsupp.finset_sum_apply, Finset.sum_eq_single s]
  · by_cases ha : active s d = true
    · rw [if_pos ⟨ha, (start_ph s).1⟩, tallyAt_apply]
      by_cases hc : tgt s.1 d = c
      · subst hc; rw [if_pos ⟨rfl, rfl⟩, if_pos ⟨rfl, ha⟩]
      · rw [if_neg fun h => hc (recv_inj h.1.symm).1, if_neg fun h => hc h.1]
    · rw [if_neg fun h => ha h.1, if_neg fun h => ha h.2]; rfl
  · intro s' _ hs
    split
    · rw [tallyAt_apply]; exact if_neg fun h => hs (recv_inj h.1.symm).2
    · rfl
  · exact fun h => absurd (Finset.mem_univ s) h

theorem O₀_apply (d : Dev nD) (g : GSem nD τ sig) :
    O₀ d g () = owed d 0 g () + (tallyAt (barCell (barDst false d)) () 1 : CellTallies nD τ sig Unit) g ()
      + (tallyAt (barCell (barDst true d)) () 1 : CellTallies nD τ sig Unit) g () := rfl

theorem bar_count : ∀ c : Dev nD, (∑ d : Dev nD, ((if barDst false d = c then 1 else 0) + (if barDst true d = c then 1 else 0))) = 2 := by decide +kernel

theorem tally_bar (d c : Dev nD) : (tallyAt (barCell d) () 1 : CellTallies nD τ sig Unit) (barCell c) () = if d = c then 1 else 0 := by
  rw [tallyAt_apply]
  by_cases h : d = c
  · subst h; rw [if_pos ⟨rfl, rfl⟩, if_pos rfl]
  · rw [if_neg fun h' => h (bar_inj' h'.1.symm), if_neg h]
theorem tally_bar_recv (d c : Dev nD) (s : Slot) : (tallyAt (barCell d) () 1 : CellTallies nD τ sig Unit) (recvCell c s) () = 0 := by
  rw [tallyAt_apply]; exact if_neg fun h => recv_ne_bar h.1

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, ← bar_count c]
  refine Finset.sum_congr rfl fun d _ => ?_
  rw [O₀_apply, owed_bar, tally_bar, tally_bar, Nat.zero_add]

theorem launch_recv (c : Dev nD) (s : Slot) (h : recvs s c = true) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_eq_single (src s.1 c)]
  · rw [O₀_apply, owed_recv, tally_bar_recv, tally_bar_recv, if_pos ⟨tgt_src _ _, h⟩, Nat.add_zero]
  · intro d _ hd
    rw [O₀_apply, owed_recv, tally_bar_recv, tally_bar_recv, if_neg fun h' => hd (by rw [← h'.1, src_tgt]), Nat.add_zero]
  · exact fun h => absurd (Finset.mem_univ _) h

theorem arrival_cred (c : Dev nD) (s : Slot) :
    iprop(cred (tallyOn (sendCell c s) (launchCredit (Pipeline.owing O₀) 0 (sendCell c s))) ∗ cred (tallyOn (recvCell c s) (launchCredit (Pipeline.owing O₀) 0 (recvCell c s))))
      ⊢ onlyIf (F := F) (recvs s c) (cred (tallyAt (recvCell c s) () N)) := by
  iintro ⟨-, H⟩
  cases h : recvs s c with
  | true => rw [launch_recv c s h]; simp only [onlyIf]; iexact H
  | false => simp only [onlyIf]; iclear H; iempintro

/-- A device starts with its barrier's two units and the credit of its arrivals. -/
theorem creds (c : Dev nD) : (Pipeline.launchCred O₀ c : sProp 𝕄) ⊢ iprop(cred (tallyAt (barCell c) () 2) ∗ arrivals (F := F) c) := by
  unfold Pipeline.launchCred
  refine (bigSep_subset (Finset.subset_univ (Finset.univ.map ⟨csem, csem_inj⟩))).trans ?_
  rw [bigSep_map, by_name, by_slot]
  refine BI.sep_mono (Entails.of_eq (congrArg cred (launch_bar c))) ?_
  unfold arrivals
  refine bigSep_mono fun s _ => ?_
  exact arrival_cred c s

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi_first (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  rw [show (Pipeline.scopedRest cfg0.spec c : sProp 𝕄) = scratch (F := F) c from scopedRest0_eq c]
  unfold Φ₀
  iintro ⟨Hs, -, Hr⟩
  isplitl [Hs] <;> iassumption

theorem phi_last (c : Dev nD) :
    (dats m 0 c).Φ (Fin.last cfg0.N) ⊢ iprop(unscopedSems0 c ∗ ownZeros (F := F) c ∗ Pipeline.scopedRest cfg0.spec c) := by
  rw [show (dats m 0 c).Φ (Fin.last cfg0.N) = Φ₁ (F := F) c from rfl, unscoped_eq]
  rw [show (Pipeline.scopedRest cfg0.spec c : sProp 𝕄) = scratch (F := F) c from scopedRest0_eq c]
  rw [show ownZeros (F := F) c = zeros (F := F) c from by
    unfold ownZeros Pipeline.ownSems0 zeros; rw [by_slot]; rfl]
  unfold Φ₁
  iintro ⟨Hr, Hz, HB⟩
  isplitl [HB]; · iexact HB
  isplitl [Hz] <;> iassumption

/-- No semaphore of the staging buffers is one of the chain's. -/
theorem lv_stage (c : Dev nD) (w : Fin cfg0.W) (s : Fin (cfg0.spec w).nbuf) : lv ((c : Thread nD τ), .dma ((cfg0.spec w).sem s)) () = 0 := by
  unfold lv
  rw [kindOf_of_ne _ fun k => by
    cases k with
    | none => exact fun h => nomatch h
    | some k => exact ownSemFacts.disj k w s]
  rfl

theorem waits (c : Dev nD) : (levAts L lv : sProp 𝕄) ⊢ Pipeline.cellsWaits cfgs (dats m) () 0 c :=
  Pipeline.cellsWaits_intro cfgs (dats m) () 0 c fun w s t =>
    mayWait_stage c _ (lv_stage c w s) _ (by
      rcases t with ⟨_ | _, ht⟩
      · exact Or.inl rfl
      · exact Or.inr rfl)

/-! ## The run -/

/-- What the arrays of device `c` hold at the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters, for any float values: every weakly fair execution of the program on the mesh ends,
    and every final state has each device's arrays at `finalA` and every semaphore at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_chain m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_first m) (hout := phi_last m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block of `x` after the run holds what it held. -/
theorem finalA_x (c : Dev nD) : finalA m c (0 : Fin 2) = m (win0_0.arr.view.loc (c : Thread nD τ)) :=
  (dats (F := F) m 0 c).arrAt_in (0 : Fin 2) rfl _

end Cert.KernelIdeal.Chain

end
-- ==== Proof.KernelIdeal.Arrays.lean ====
/-
What the two arrays of a device hold after the run: the block of `x` what it held, the result the four pieces side by
side.

-/
module

public import proofs.«01_k».proof.Proof.KernelIdeal.Launch

@[expose] public section

noncomputable section

namespace Cert.KernelIdeal.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-- The staging buffer holds the whole block of `x`. -/
theorem xstg_eq (c : Dev nD) : xstg m c = m ((c : Thread nD τ).loc main_arg0) := by
  unfold xstg
  exact Memref.read_access_unit_zero (Elt F) main_arg0 (funext fun a => by fin_cases a <;> decide) _ _

/-- The result array ends holding the pieces of the result. -/
theorem finalA_out (c : Dev nD) : finalA m c (1 : Fin 2) = outAt m c := by
  have h : (win0_1.blk (0 : Fin 1)).view.read (Elt F) (finalA m c (1 : Fin 2)) = outAt m c := by
    unfold finalA
    rw [show cfg0.N = ((0 : Fin 1) : Fin cfg0.N).val + 1 from rfl, (dats m 0 c).arrAt_succ (1 : Fin 2) (0 : Fin 1),
      show (cfg0.win (1 : Fin 2)).flush (0 : Fin 1) = true from by decide, if_pos rfl]
    exact View.read_write_univ _ _
  exact (Memref.read_access_unit_zero (Elt F) main_v1 (funext fun a => by fin_cases a <;> decide) _ _).symm.trans h

/-- The run with the arrays named: every device's result holds its four pieces, its block of `x` is unchanged, and every
    semaphore is at zero. -/
theorem run_arrays : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0))
    ∧ r.2.sem = fun _ => 0) :=
  (θ_run defs _ _).mono (fun _ h => ⟨fun c => ⟨(h.1 c (1 : Fin 2)).trans (finalA_out m c),
    (h.1 c (0 : Fin 2)).trans (finalA_x m c)⟩, h.2⟩) (run_main m ρ)

end Cert.KernelIdeal.Chain

end
-- ==== Proof.KernelIdeal.Sums.lean ====
/-
The arithmetic of the chain on one line of four places, over any commutative addition: a flow carries to the next place
the sum of what the places behind it hold, so a place's own term, what the flow towards larger places brings it and what
the flow towards smaller ones does make the sum over the line.

-/
module

public import Mathlib.Algebra.BigOperators.Fin
public import Mathlib.Tactic.Abel
public import Mathlib.Tactic.IntervalCases

@[expose] public section

noncomputable section

namespace Cert.KernelIdeal.Chain

variable {A : Type} [AddCommMonoid A]

/-- Whether the flow `d` has a place before `z`, and which it is. -/
def hasPrior (d : Bool) (z : ℕ) : Bool := cond d (decide (1 ≤ z)) (decide (z ≤ 2))
def prior (d : Bool) (z : ℕ) : ℕ := cond d (z - 1) (z + 1)

/-- What the place `z` passes on in round `r` of the flow `d`, the place `k` holding the term `W k`. -/
def passes (W : ℕ → A) (d : Bool) : ℕ → ℕ → A
  | 0, z => W z
  | r + 1, z => W z + (if hasPrior d z = true then passes W d r (prior d z) else 0)

/-- What arrives at the place `z` in the last round. -/
def comes (W : ℕ → A) (d : Bool) (z : ℕ) : A := if hasPrior d z = true then passes W d 2 (prior d z) else 0

/-- A place's own term and the two arrivals are the sum over the line. -/
theorem line_sum (W : ℕ → A) (z : ℕ) (hz : z < 4) : W z + comes W true z + comes W false z = ∑ k : Fin 4, W k.val := by
  interval_cases z <;> simp [comes, passes, hasPrior, prior, Fin.sum_univ_four] <;> abel

end Cert.KernelIdeal.Chain

end
-- ==== Proof.KernelIdeal.Value.lean ====
/-
The result of the run over the extended reals. A piece of a payload is read at an index: in every round it is the sum,
over the places behind, of their entries in the chunk's piece; the result is the sum over the four places of the line.

-/
module

public import proofs.«01_k».proof.Proof.KernelIdeal.Cells
public import proofs.«01_k».proof.Proof.KernelIdeal.Sums
public import Idealize.ShloMosaic.Lib.IdealHost
public import Idealize.ShloMosaic.Lib.ValueLayout
public import Idealize.ShloMosaic.Lib.Pipeline.Value

@[expose] public section

noncomputable section

namespace Cert.KernelIdeal.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable (m : (ℓ : Loc nD τ sig) → Buf (Elt Ideal) ℓ)

/-- A payload as 128 rows of 512. -/
def flat (v : Vec Ideal S1x1x128x512 .bf16) : FVec Ideal S128x512 .bf16 := shapeCast S128x512 v shapeCasts_S1x1x128x512_S128x512
/-- A piece of a chunk as 128 rows of 512. -/
def flatx (x : Vec Ideal S1x128x512 .bf16) : FVec Ideal S128x512 .bf16 := shapeCast S128x512 x shapeCasts_S1x128x512_S128x512

theorem flat_cast (w : FVec Ideal S128x512 .bf16) : flat (shapeCast S1x1x128x512 w shapeCasts_S128x512_S1x1x128x512) = w :=
  shapeCast_shapeCast w _ _

/-- A selection by whether a flow has a device before `c`. -/
theorem select_cond {α : Type} (b : Bool) (x y : α) : Scalar.select (cond b 1#1 0#1) x y = if b = true then x else y := by
  cases b <;> rfl

/-- A payload of round zero holds the piece; -/
theorem flat_first (x : Vec Ideal S1x128x512 .bf16) : flat (k0_pay1 x) = flatx x := flat_cast _

/-- of a later round, the piece and what arrived, where something does. -/
theorem flat_later (d : Bool) (c : Dev nD) (x : Vec Ideal S1x128x512 .bf16) (v : Vec Ideal S1x1x128x512 .bf16) (i : S128x512.Idx) :
    flat (addPay d c x v) i = (flatx x i + (if hasSrc d c = true then flat v i else 0) : EReal) := by
  cases d
  · show flat (k0_pay10 (zw c) x v) i = _
    unfold k0_pay10
    dsimp only
    rw [flat_cast, addf_apply, sle_zw, select_cond]
    cases hasSrc false c
    · exact congrArg (flatx x i + ·) Ideal.ofBits_zero_bf16
    · rfl
  · show flat (k0_pay9 (zw c) x v) i = _
    unfold k0_pay9
    dsimp only
    rw [flat_cast, addf_apply, sge_zw, select_cond]
    cases hasSrc true c
    · exact congrArg (flatx x i + ·) Ideal.ofBits_zero_bf16
    · rfl

/-- A piece of the result is the device's own piece and the two arrivals, where there are any. -/
theorem out_apply (c : Dev nD) (x : Vec Ideal S1x128x512 .bf16) (v w : Vec Ideal S1x1x128x512 .bf16) (i : S128x512.Idx) :
    k0_pay25 (zw c) x v w i
      = (flatx x i + (if hasSrc true c = true then flat v i else 0) + (if hasSrc false c = true then flat w i else 0) : EReal) := by
  unfold k0_pay25
  rw [addf_apply, addf_apply, sge_zw, sle_zw, select_cond, select_cond]
  refine congr (congrArg HAdd.hAdd (congrArg (flatx x i + ·) ?_)) ?_
  · cases hasSrc true c
    · exact Ideal.ofBits_zero_f32
    · rfl
  · cases hasSrc false c
    · exact Ideal.ofBits_zero_f32
    · rfl

/-! ## The chain at one index -/

/-- Of a device that sends in a later round and has one before it: that device sends in the round before, the same chunk,
    and is the prior place of the line; -/
theorem before_src : ∀ (d : Bool) (p : Fin 4) (r : Fin 2) (c : Dev nD), active (d, Fin.ofNat 3 (r.val + 1), p) c = true → hasSrc d c = true →
    active (d, Fin.ofNat 3 r.val, p) (src d c) = true ∧ chunk d (Fin.ofNat 3 r.val) (src d c) = chunk d (Fin.ofNat 3 (r.val + 1)) c
      ∧ (src d c).val % 4 = prior d (c.val % 4) := by decide +kernel
/-- of any device with one before it, that device sends in the last round, the chunk of the device. -/
theorem last_src : ∀ (d : Bool) (p : Fin 4) (c : Dev nD), hasSrc d c = true →
    active (d, Fin.ofNat 3 2, p) (src d c) = true ∧ chunk d (Fin.ofNat 3 2) (src d c) = zF c
      ∧ (src d c).val % 4 = prior d (c.val % 4) := by decide +kernel

theorem hasSrc_place (d : Bool) (c : Dev nD) : hasSrc d c = hasPrior d (c.val % 4) := rfl

/-- What a device sends at an index is what the line's place passes on of the chunk's entries there. -/
theorem flat_PR (W : ℕ → EReal) (d : Bool) (p j : Fin 4) (i : S128x512.Idx) (hW : ∀ c, flatx (xc m c p j) i = W (c.val % 4)) :
    ∀ r : ℕ, r ≤ 2 → ∀ c, active (d, Fin.ofNat 3 r, p) c = true → chunk d (Fin.ofNat 3 r) c = j →
      flat (PR m d r p c) i = passes W d r (c.val % 4)
  | 0, _, c, _, hj => by
    have hj' : chunk d 0 c = j := hj
    show flat (k0_pay1 (xc m c p (chunk d 0 c))) i = W (c.val % 4)
    rw [flat_first, hj', hW]
  | r + 1, hr, c, ha, hj => by
    show flat (addPay d c (xc m c p (chunk d (Fin.ofNat 3 (r + 1)) c)) (if hasSrc d c then PR m d r p (src d c) else nothing)) i
      = W (c.val % 4) + (if hasPrior d (c.val % 4) = true then passes W d r (prior d (c.val % 4)) else 0)
    rw [flat_later, hj, hW, ← hasSrc_place]
    refine congrArg (W (c.val % 4) + ·) ?_
    by_cases hs : hasSrc d c = true
    · obtain ⟨ha', hc', hp'⟩ := before_src d p ⟨r, by omega⟩ c ha hs
      rw [if_pos hs, if_pos hs, if_pos hs, flat_PR W d p j i hW r (by omega) (src d c) ha' (hc'.trans hj), hp']
    · rw [if_neg hs, if_neg hs]

/-- What arrives at a device in the last round, at an index, -/
theorem flat_last (W : ℕ → EReal) (d : Bool) (p : Fin 4) (c : Dev nD) (i : S128x512.Idx)
    (hW : ∀ c', flatx (xc m c' p (zF c)) i = W (c'.val % 4)) :
    (if hasSrc d c = true then flat (lastIn m d p c) i else 0 : EReal) = comes W d (c.val % 4) := by
  unfold comes lastIn
  rw [← hasSrc_place]
  by_cases hs : hasSrc d c = true
  · obtain ⟨ha, hc, hp⟩ := last_src d p c hs
    rw [if_pos hs, if_pos hs, if_pos hs, flat_PR m W d p (zF c) i hW 2 le_rfl (src d c) ha hc, hp]
  · rw [if_neg hs, if_neg hs]

/-- and the device's result there: the sum of the four places' entries. -/
theorem OUT_apply (W : ℕ → EReal) (c : Dev nD) (p : Fin 4) (i : S128x512.Idx)
    (hW : ∀ c', flatx (xc m c' p (zF c)) i = W (c'.val % 4)) : OUT m c p i = (∑ k : Fin 4, W k.val : EReal) := by
  unfold OUT
  rw [out_apply, flat_last m W true p c i hW, flat_last m W false p c i hW, hW]
  exact line_sum W (c.val % 4) (Nat.mod_lt _ (by decide))

end Cert.KernelIdeal.Chain

end
-- ==== Proof.Reference.lean ====
/-
What the reference computes over the extended reals: the sum of the four slices of its array along the first axis.
-/
module

public import proofs.«01_k».proof.Proof.Gen.ReferenceIdeal.Run
public import Idealize.ShloMosaic.Lib.IdealHost

@[expose] public section

noncomputable section

namespace Cert.ReferenceIdeal.Total

open Cert.ReferenceIdeal Cert.ReferenceIdeal.Gen
open Idealize.ShloMosaic Idealize.ShloMosaic.TcCoe Idealize.ShloMosaic.ValueIdx Idealize.SL.Sem

/-- The sum of the four slices of the whole array. -/
def total (V : S4x512x2048.Idx → EReal) : S512x2048.Idx → EReal := fun j => ∑ k : Fin 4, V (ix3 k (j 0) (j 1))

/-- The reduction along the first axis from zero is that sum; -/
theorem reduce_total (V : FVec Ideal S4x512x2048 .f32) :
    Host.reduceAdd V (constant S_ .f32 0x00000000#32) reducesTo_S4x512x2048_S512x2048_d0 h_S_ = total V := by
  funext j
  rw [hostReduceAdd_apply, Ideal.hostReduceAdd_single _ (by decide : S4x512x2048.Reduces [0] S512x2048), constant_apply,
    Ideal.ofBits_zero_f32, zero_add]
  refine Finset.sum_congr rfl fun k _ => congrArg V (funext fun a => Fin.ext ?_)
  fin_cases a <;> rfl

variable (m : (ℓ : Loc nD τ sig) → Buf (Elt Ideal) ℓ) (ρ : Dev nD → PrngReg)

/-- so the reference ends with that sum of its argument in its result, the casts changing nothing, and its argument
    unchanged. -/
theorem run_total : θ_run defs (onTc (τ := τ) (main (F := Ideal))) ⟨m, fun _ => 0, ρ⟩ fun r => ∀ c : Dev nD,
    r.2.mem ((c : Thread nD τ).loc main_v3) = total (m ((c : Thread nD τ).loc main_arg0))
      ∧ r.2.mem ((c : Thread nD τ).loc main_arg0) = m ((c : Thread nD τ).loc main_arg0) :=
  (θ_run defs _ _).mono (fun _ h c => ⟨(h c).1.trans (reduce_total (m ((c : Thread nD τ).loc main_arg0))), (h c).2⟩) (Value.run m ρ)

end Cert.ReferenceIdeal.Total

end
-- ==== Proof.KernelIdeal.Total.lean ====
/-
The equation of the claim: where every device's block of `x` is its slice of one whole array, the result of a device is
its block of columns of the sum of the slices.

-/
module

public import proofs.«01_k».proof.Proof.KernelIdeal.Value
public import proofs.«01_k».proof.Proof.KernelIdeal.Arrays
public import proofs.«01_k».proof.Proof.Reference
public import Idealize.ShloMosaic.Lib.Layout

@[expose] public section

noncomputable section

namespace Cert.KernelIdeal.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx
open Cert.ReferenceIdeal.Total (total)

variable (m : (ℓ : Loc nD τ sig) → Buf (Elt Ideal) ℓ)

/-- A piece of a chunk, at an index, as an entry of the device's block of `x`. -/
theorem flatx_apply (c : Dev nD) (p j : Fin 4) (i : S128x512.Idx) :
    flatx (xc m c p j) i = m ((c : Thread nD τ).loc main_arg0) ((xrect p j).idx (Fin.cons ⟨0, Nat.one_pos⟩ i)) := by
  unfold flatx xc
  rw [shapeCast_dropUnit_apply, View.readAt_apply, xstg_eq]
  rfl

/-- The place of a device on its line is its coordinate on the last axis of the mesh, -/
theorem place_x (c : Dev nD) : ((Layout.meshBlock [2, 4, 4] ![[2], [], []] c) 0).val = c.val % 4 := by
  revert c; decide +kernel
/-- by which the result is cut along its columns too. -/
theorem place_out (c : Dev nD) : ((Layout.meshBlock [2, 4, 4] ![[], [2]] c) 1).val = c.val % 4 := by
  revert c; decide +kernel

/-- The result of a device is its block of columns of the sum of the slices. -/
theorem outAt_total (V : (⟨3, ![4, 512, 2048]⟩ : Shape).Idx → EReal)
    (hV : ∀ c : Dev nD, m ((c : Thread nD τ).loc main_arg0)
      = Layout.blockN ⟨3, ![1, 512, 2048]⟩ ⟨3, ![4, 512, 2048]⟩ (Layout.meshBlock [2, 4, 4] ![[2], [], []] c) V) (c : Dev nD) :
    outAt m c = Layout.blockN ⟨2, ![512, 512]⟩ ⟨2, ![512, 2048]⟩ (Layout.meshBlock [2, 4, 4] ![[], [2]] c) (total V) := by
  funext i
  have hr : (i 0).val < 512 := (i 0).isLt
  have hl : (i 1).val < 512 := (i 1).isLt
  have hz : c.val % 4 < 4 := Nat.mod_lt _ (by decide)
  have ho := place_out c
  unfold outAt
  refine (OUT_apply m (fun k => V (ix3 (⟨k % 4, Nat.mod_lt _ (by decide)⟩ : Fin 4) (⟨(i 0).val, hr⟩ : Fin 512)
    (⟨(c.val % 4) * 512 + (i 1).val, by omega⟩ : Fin 2048))) c _ _ ?_).trans ?_
  rotate_left
  · rw [Layout.blockN_apply]
    unfold total
    refine Finset.sum_congr rfl fun k _ => congrArg V (funext fun a => Fin.ext ?_)
    fin_cases a
    · exact Nat.mod_eq_of_lt k.isLt
    · exact ((Nat.zero_mul _).symm ▸ Nat.zero_add _).symm
    · exact congrArg (· * 512 + (i 1).val) ho.symm
  · intro c'
    have hx := place_x c'
    rw [flatx_apply, hV, Layout.blockN_apply]
    refine congrArg V (funext fun a => Fin.ext ?_)
    rw [Layout.TilesN.idx_val]
    fin_cases a
    · show ((Layout.meshBlock [2, 4, 4] ![[2], [], []] c') 0).val * 1 + (0 + 1 * 0) = c'.val % 4 % 4
      omega
    · show 0 * 512 + (128 * ((i 0).val / 128) + 1 * ((i 0).val % 128)) = (i 0).val
      omega
    · show 0 * 2048 + (512 * (c.val % 4) + 1 * (i 1).val) = c.val % 4 * 512 + (i 1).val
      omega

end Cert.KernelIdeal.Chain

end
-- ==== Proof.lean ====
/-
The certificate: the frames of the kernel, of its idealization and of the reference, and the equality of the last two over
the extended reals, from the runs proved in Proof/Kernel, Proof/KernelIdeal and Proof/Reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Arrays
public import proofs.«01_k».proof.Proof.KernelIdeal.Arrays
public import proofs.«01_k».proof.Proof.KernelIdeal.Total
public import proofs.«01_k».proof.Proof.Reference
public import Idealize.ShloMosaic.Adequacy
public import Idealize.ShloMosaic.Init

@[expose] public section

noncomputable section

namespace Cert.Proof

open Idealize.ShloMosaic Idealize.SL.Sem

/-- The kernel ends from any memory with zero counters, its argument unchanged and every semaphore at zero; -/
theorem frame_kernel : Cert.quiescent_Kernel := fun m g _ =>
  (θ_run _ _ _).mono (fun _ h => ⟨fun c => (h.1 c).2, h.2⟩) (Cert.Kernel.Chain.run_arrays (F := Bits) m g)

/-- its idealization likewise; -/
theorem frame_ideal : Cert.quiescent_KernelIdeal := fun m g _ =>
  (θ_run _ _ _).mono (fun _ h => ⟨fun c => (h.1 c).2, h.2⟩) (Cert.KernelIdeal.Chain.run_arrays (F := Ideal) m g)

/-- and the reference, which has no semaphore. -/
theorem frame_reference : Cert.quiescent_ReferenceIdeal := fun m g _ =>
  (θ_run _ _ _).mono (fun r h => ⟨fun c => (h c).2, sem_eq_zero_of_no_sems (by decide) r.2⟩) (Cert.ReferenceIdeal.Total.run_total m g)

/-- Over the extended reals every device of the kernel ends with its block of columns of the reference's result. -/
theorem equal : Cert.algebraic_KernelIdeal_ReferenceIdeal := fun m g m' g' _ hx =>
  ⟨Cert.ReferenceIdeal.Total.total (m' ((0 : Dev Cert.ReferenceIdeal.nD).tc.loc Cert.ReferenceIdeal.main_arg0)),
    (θ_run _ _ _).mono (fun _ h c => ⟨(h.1 c).1.trans (Cert.KernelIdeal.Chain.outAt_total m _ hx c), (h.1 c).2⟩)
      (Cert.KernelIdeal.Chain.run_arrays (F := Ideal) m g),
    (θ_run _ _ _).mono (fun _ h => h 0) (Cert.ReferenceIdeal.Total.run_total m' g')⟩

theorem claim : Cert.Claim := ⟨Cert.Kernel.Gen.facts, Cert.KernelIdeal.Gen.facts, Cert.ReferenceIdeal.Gen.facts,
  frame_kernel, frame_ideal, frame_reference, trivial, equal⟩

end Cert.Proof

end
